-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_memory [hPre_fresh_memory : Cert.Pre_fresh_memory.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_fresh_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_fresh_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_fresh_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_fresh_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_fresh_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_fresh_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_fresh_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_memory [hPre_fresh_memory : Cert.Pre_fresh_memory.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_fresh_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_fresh_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_fresh_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_fresh_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_fresh_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_fresh_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_fresh_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_fresh_memory [hKernelIdeal : Cert.KernelIdeal.Facts] [hPre_fresh_memory : Cert.Pre_fresh_memory.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_memory m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_fresh_memory [hReferenceIdeal : Cert.ReferenceIdeal.Facts] [hPre_fresh_memory : Cert.Pre_fresh_memory.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_memory m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_fresh_memory [hKernelIdeal : Cert.KernelIdeal.Facts] [hReferenceIdeal : Cert.ReferenceIdeal.Facts] [hPre_fresh_memory : Cert.Pre_fresh_memory.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_memory m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_fresh_memory : Cert.Pre_fresh_memory.Facts),
    quiescent_Kernel (hKernel := hKernel)
    ∧ quiescent_KernelIdeal (hKernelIdeal := hKernelIdeal)
    ∧ quiescent_KernelIdeal_pre_fresh_memory (hKernelIdeal := hKernelIdeal) (hPre_fresh_memory := hPre_fresh_memory)
    ∧ quiescent_ReferenceIdeal (hReferenceIdeal := hReferenceIdeal)
    ∧ quiescent_ReferenceIdeal_pre_fresh_memory (hReferenceIdeal := hReferenceIdeal) (hPre_fresh_memory := hPre_fresh_memory)
    ∧ preserves_Kernel_KernelIdeal
    ∧ algebraic_KernelIdeal_ReferenceIdeal_pre_fresh_memory (hKernelIdeal := hKernelIdeal) (hReferenceIdeal := hReferenceIdeal) (hPre_fresh_memory := hPre_fresh_memory)
-- ==== Pre_fresh_memory.lean ====
abbrev S1024x64 : Shape := ⟨2, ![1024, 64]⟩
abbrev S65536x64 : Shape := ⟨2, ![65536, 64]⟩
abbrev S65536 : Shape := ⟨1, ![65536]⟩
abbrev S64x64 : Shape := ⟨2, ![64, 64]⟩
abbrev S64 : Shape := ⟨1, ![64]⟩
abbrev S_ : Shape := ⟨0, ![]⟩
abbrev S65535 : Shape := ⟨1, ![65535]⟩

class Facts : Prop where
  bcast_S_S65536x64 : S_.BroadcastsInDim S65536x64 (![] : Fin 0 → Fin S65536x64.rank)
  slices_S65536_S65535_0 : S65536.Slices ![0] S65535
  slices_S65536_S65535_1 : S65536.Slices ![1] S65535
  bcast_S_S1024x64 : S_.BroadcastsInDim S1024x64 (![] : Fin 0 → Fin S1024x64.rank)
  bcast_S_S64x64 : S_.BroadcastsInDim S64x64 (![] : Fin 0 → Fin S64x64.rank)
  bcast_S_S64 : S_.BroadcastsInDim S64 (![] : Fin 0 → Fin S64.rank)

variable [Facts]

def fn_part1 {F : FTy → Type} [FloatOps F] (main_arg7 : FVec F S64x64 .f32) (main_v1 : IVec S65536x64 1) (main_v4 : IVec S65535 1) (main_v7 : IVec S1024x64 1) (main_v10 : IVec S64x64 1) (main_v13 : IVec S64 1) (main_v16 : IVec S64x64 1) (main_v17 : FVec F S64 .f32) (main_cst_4 : FVec F S_ .f32) : IVec S65536x64 1 × IVec S65535 1 × IVec S1024x64 1 × IVec S64x64 1 × IVec S64 1 × IVec S64x64 1 × IVec S64 1 × IVec S64x64 1 :=
  let main_v18 : FVec F S64 .f32 := broadcastInDim S64 ![] bcast_S_S64 main_cst_4
  let main_v19 : IVec S64 1 := cmpf .oeq main_v17 main_v18
  let main_v20 : FVec F S64x64 .f32 := subf main_arg7 main_arg7
  let main_cst_5 : FVec F S_ .f32 := constant S_ .f32 0x00000000#32
  let main_v21 : FVec F S64x64 .f32 := broadcastInDim S64x64 ![] bcast_S_S64x64 main_cst_5
  let main_v22 : IVec S64x64 1 := cmpf .oeq main_v20 main_v21
  (main_v1, main_v4, main_v7, main_v10, main_v13, main_v16, main_v19, main_v22)

def fn {F : FTy → Type} [FloatOps F] (main_arg0 : FVec F S1024x64 .f32) (main_arg1 : FVec F S65536x64 .f32) (main_arg2 : FVec F S65536 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S65536x64 1 × IVec S65535 1 × IVec S1024x64 1 × IVec S64x64 1 × IVec S64 1 × IVec S64x64 1 × IVec S64 1 × IVec S64x64 1 :=
  let main_cst : FVec F S_ .f32 := constant S_ .f32 0x00000000#32
  let main_v0 : FVec F S65536x64 .f32 := broadcastInDim S65536x64 ![] bcast_S_S65536x64 main_cst
  let main_v1 : IVec S65536x64 1 := cmpf .oeq main_arg1 main_v0
  let main_v2 : FVec F S65535 .f32 := (extractStridedSlice S65535 ![0] · slices_S65536_S65535_0) main_arg2
  let main_v3 : FVec F S65535 .f32 := (extractStridedSlice S65535 ![1] · slices_S65536_S65535_1) main_arg2
  let main_v4 : IVec S65535 1 := cmpf .ole main_v2 main_v3
  let main_v5 : FVec F S1024x64 .f32 := subf main_arg0 main_arg0
  let main_cst_0 : FVec F S_ .f32 := constant S_ .f32 0x00000000#32
  let main_v6 : FVec F S1024x64 .f32 := broadcastInDim S1024x64 ![] bcast_S_S1024x64 main_cst_0
  let main_v7 : IVec S1024x64 1 := cmpf .oeq main_v5 main_v6
  let main_v8 : FVec F S64x64 .f32 := subf main_arg3 main_arg3
  let main_cst_1 : FVec F S_ .f32 := constant S_ .f32 0x00000000#32
  let main_v9 : FVec F S64x64 .f32 := broadcastInDim S64x64 ![] bcast_S_S64x64 main_cst_1
  let main_v10 : IVec S64x64 1 := cmpf .oeq main_v8 main_v9
  let main_v11 : FVec F S64 .f32 := subf main_arg4 main_arg4
  let main_cst_2 : FVec F S_ .f32 := constant S_ .f32 0x00000000#32
  let main_v12 : FVec F S64 .f32 := broadcastInDim S64 ![] bcast_S_S64 main_cst_2
  let main_v13 : IVec S64 1 := cmpf .oeq main_v11 main_v12
  let main_v14 : FVec F S64x64 .f32 := subf main_arg5 main_arg5
  let main_cst_3 : FVec F S_ .f32 := constant S_ .f32 0x00000000#32
  let main_v15 : FVec F S64x64 .f32 := broadcastInDim S64x64 ![] bcast_S_S64x64 main_cst_3
  let main_v16 : IVec S64x64 1 := cmpf .oeq main_v14 main_v15
  let main_v17 : FVec F S64 .f32 := subf main_arg6 main_arg6
  let main_cst_4 : FVec F S_ .f32 := constant S_ .f32 0x00000000#32
  fn_part1 (F := F) main_arg7 main_v1 main_v4 main_v7 main_v10 main_v13 main_v16 main_v17 main_cst_4
-- ==== Kernel.lean ====
abbrev S1024x64 : Shape := ⟨2, ![1024, 64]⟩
abbrev S65536x64 : Shape := ⟨2, ![65536, 64]⟩
abbrev S65536 : Shape := ⟨1, ![65536]⟩
abbrev S64x64 : Shape := ⟨2, ![64, 64]⟩
abbrev S64 : Shape := ⟨1, ![64]⟩
abbrev S1x64 : Shape := ⟨2, ![1, 64]⟩
abbrev S1024x65536 : Shape := ⟨2, ![1024, 65536]⟩
abbrev S1024x2048 : Shape := ⟨2, ![1024, 2048]⟩
abbrev S1024x1024 : Shape := ⟨2, ![1024, 1024]⟩
abbrev S1024x2 : Shape := ⟨2, ![1024, 2]⟩
abbrev S1x64x64 : Shape := ⟨3, ![1, 64, 64]⟩
abbrev S1 : Shape := ⟨1, ![1]⟩
abbrev S1x1x1 : Shape := ⟨3, ![1, 1, 1]⟩
abbrev S64x1024 : Shape := ⟨2, ![64, 1024]⟩
abbrev S64x1 : Shape := ⟨2, ![64, 1]⟩
abbrev S1024x1 : Shape := ⟨2, ![1024, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S1024x64, .f32⟩
  | .hbm, ⟨1, _⟩ => ⟨S65536x64, .f32⟩
  | .hbm, ⟨2, _⟩ => ⟨S65536, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1024x65536, .f32⟩
  | .hbm, ⟨13, _⟩ => ⟨S1024x64, .f32⟩
  | .local _ .vmem, ⟨0, _⟩ => ⟨S1024x64, .f32⟩
  | .local _ .vmem, ⟨1, _⟩ => ⟨S64x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1024x2048, .f32⟩
  | .local _ .vmem, ⟨8, _⟩ => ⟨S1024x2048, .f32⟩
  | .local _ .vmem, ⟨9, _⟩ => ⟨S1024x64, .f32⟩
  | .local _ .vmem, ⟨10, _⟩ => ⟨S1024x1024, .f32⟩
  | .local _ .vmem, ⟨11, _⟩ => ⟨S1024x64, .f32⟩
  | .local _ .vmem, ⟨12, _⟩ => ⟨S1024x2, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v3 : BitVec 1 := Scalar.cmpi .slt arg0 c31_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c31_i32_2 : BitVec 32 := 31#32
  let v6 : BitVec 1 := Scalar.cmpi .eq arg0 c31_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let c0_i32 : BitVec 32 := 0#32
  let v1 : BitVec 1 := Scalar.cmpi .eq c32_i32 c0_i32
  let c1_i32_0 : BitVec 32 := 1#32
  let v2 : BitVec 32 := Scalar.select v1 c1_i32_0 c32_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1024x64 : Shape := ⟨2, ![1024, 64]⟩
abbrev S65536x64 : Shape := ⟨2, ![65536, 64]⟩
abbrev S65536 : Shape := ⟨1, ![65536]⟩
abbrev S64x64 : Shape := ⟨2, ![64, 64]⟩
abbrev S64 : Shape := ⟨1, ![64]⟩
abbrev S1024 : Shape := ⟨1, ![1024]⟩
abbrev S_ : Shape := ⟨0, ![]⟩
abbrev S1024x1 : Shape := ⟨2, ![1024, 1]⟩
abbrev S1x64 : Shape := ⟨2, ![1, 64]⟩
abbrev S64x65536 : Shape := ⟨2, ![64, 65536]⟩
abbrev S1024x65536 : Shape := ⟨2, ![1024, 65536]⟩

abbrev nBuf : Space → Nat
  | .hbm => 143
  | .vmem => 0
  | .smem => 0
  | _ => 0

abbrev hbmTy0_0 (i : Nat) : BufTy := match i % 128 with
  | 0 => ⟨S1024x64, .f32⟩
  | 1 => ⟨S65536x64, .f32⟩
  | 2 => ⟨S65536, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S65536, .f32⟩
  | 10 => ⟨S1024, .f32⟩
  | 11 => ⟨S1024, .i32⟩
  | 12 => ⟨S_, .i32⟩
  | 13 => ⟨S1024, .i32⟩
  | 14 => ⟨S1024, .i1⟩
  | 15 => ⟨S_, .i32⟩
  | 16 => ⟨S1024, .i32⟩
  | 17 => ⟨S1024, .i32⟩
  | 18 => ⟨S1024, .i32⟩
  | 19 => ⟨S1024x1, .i32⟩
  | 20 => ⟨S65536x64, .f32⟩
  | 21 => ⟨S64x64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S64x64, .f32⟩
  | 30 => ⟨S64x64, .f32⟩
  | 31 => ⟨S_, .f32⟩
  | 32 => ⟨S64x64, .f32⟩
  | 33 => ⟨S64x64, .i1⟩
  | 34 => ⟨S_, .f32⟩
  | 35 => ⟨S64x64, .f32⟩
  | 36 => ⟨S64x64, .i1⟩
  | 37 => ⟨S_, .f32⟩
  | 38 => ⟨S_, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S1024x64, .f32⟩
  | 52 => ⟨S1x64, .f32⟩
  | 53 => ⟨S1024x64, .f32⟩
  | 54 => ⟨S1024x64, .f32⟩
  | 55 => ⟨S64x64, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S64x64, .f32⟩
  | 64 => ⟨S64x64, .f32⟩
  | 65 => ⟨S_, .f32⟩
  | 66 => ⟨S64x64, .f32⟩
  | 67 => ⟨S64x64, .i1⟩
  | 68 => ⟨S_, .f32⟩
  | 69 => ⟨S64x64, .f32⟩
  | 70 => ⟨S64x64, .i1⟩
  | 71 => ⟨S_, .f32⟩
  | 72 => ⟨S_, .f32⟩
  | 73 => ⟨S64x64, .f32⟩
  | 74 => ⟨S64x64, .f32⟩
  | 75 => ⟨S64x64, .f32⟩
  | 76 => ⟨S_, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S65536x64, .f32⟩
  | 86 => ⟨S1x64, .f32⟩
  | 87 => ⟨S65536x64, .f32⟩
  | 88 => ⟨S65536x64, .f32⟩
  | 89 => ⟨S64x64, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S64x64, .f32⟩
  | 98 => ⟨S64x64, .f32⟩
  | 99 => ⟨S_, .f32⟩
  | 100 => ⟨S64x64, .f32⟩
  | 101 => ⟨S64x64, .i1⟩
  | 102 => ⟨S_, .f32⟩
  | 103 => ⟨S64x64, .f32⟩
  | 104 => ⟨S64x64, .i1⟩
  | 105 => ⟨S_, .f32⟩
  | 106 => ⟨S_, .f32⟩
  | 107 => ⟨S64x64, .f32⟩
  | 108 => ⟨S64x64, .f32⟩
  | 109 => ⟨S64x64, .f32⟩
  | 110 => ⟨S_, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S65536x64, .f32⟩
  | 120 => ⟨S1x64, .f32⟩
  | 121 => ⟨S65536x64, .f32⟩
  | 122 => ⟨S65536x64, .f32⟩
  | 123 => ⟨S64x65536, .f32⟩
  | 124 => ⟨S1024x65536, .f32⟩
  | 125 => ⟨S_, .f32⟩
  | 126 => ⟨S1024x65536, .f32⟩
  | 127 => ⟨S1024x65536, .f32⟩
  | _ => ⟨S1024x64, .f32⟩

abbrev hbmTy0_1 (i : Nat) : BufTy := match i % 128 with
  | 0 => ⟨S_, .f32⟩
  | 1 => ⟨S1024, .f32⟩
  | 2 => ⟨S_, .f32⟩
  | 3 => ⟨S1024, .f32⟩
  | 4 => ⟨S1024, .f32⟩
  | 5 => ⟨S1024x1, .f32⟩
  | 6 => ⟨S1024x65536, .f32⟩
  | 7 => ⟨S1024x65536, .f32⟩
  | 8 => ⟨S1024x65536, .f32⟩
  | 9 => ⟨S_, .f32⟩
  | 10 => ⟨S1024, .f32⟩
  | 11 => ⟨S1024x1, .f32⟩
  | 12 => ⟨S1024x65536, .f32⟩
  | 13 => ⟨S1024x65536, .f32⟩
  | 14 => ⟨S1024x64, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_values : Ref sig .tc := ⟨.hbm, 10, rfl⟩
abbrev main_indices : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_cst_7 : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_cst_9 : Ref sig .tc := ⟨.hbm, 58, rfl⟩
abbrev main_v32 : Ref sig .tc := ⟨.hbm, 59, rfl⟩
abbrev main_cst_10 : Ref sig .tc := ⟨.hbm, 60, rfl⟩
abbrev main_call3_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_v37 : Ref sig .tc := ⟨.hbm, 67, rfl⟩
abbrev main_cst_12 : Ref sig .tc := ⟨.hbm, 68, rfl⟩
abbrev main_v38 : Ref sig .tc := ⟨.hbm, 69, rfl⟩
abbrev main_v39 : Ref sig .tc := ⟨.hbm, 70, rfl⟩
abbrev main_cst_13 : Ref sig .tc := ⟨.hbm, 71, rfl⟩
abbrev main_cst_14 : Ref sig .tc := ⟨.hbm, 72, rfl⟩
abbrev main_call4_v0 : Ref sig .tc := ⟨.hbm, 73, rfl⟩
abbrev main_call4_v1 : Ref sig .tc := ⟨.hbm, 74, rfl⟩
abbrev main_v40 : Ref sig .tc := ⟨.hbm, 75, rfl⟩
abbrev main_cst_15 : Ref sig .tc := ⟨.hbm, 76, rfl⟩
abbrev main_call5_v0 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_16 : Ref sig .tc := ⟨.hbm, 90, rfl⟩
abbrev main_v53 : Ref sig .tc := ⟨.hbm, 91, rfl⟩
abbrev main_cst_17 : Ref sig .tc := ⟨.hbm, 92, rfl⟩
abbrev main_v54 : Ref sig .tc := ⟨.hbm, 93, rfl⟩
abbrev main_cst_18 : Ref sig .tc := ⟨.hbm, 94, rfl⟩
abbrev main_call6_v0 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_19 : Ref sig .tc := ⟨.hbm, 99, rfl⟩
abbrev main_v58 : Ref sig .tc := ⟨.hbm, 100, rfl⟩
abbrev main_v59 : Ref sig .tc := ⟨.hbm, 101, rfl⟩
abbrev main_cst_20 : Ref sig .tc := ⟨.hbm, 102, rfl⟩
abbrev main_v60 : Ref sig .tc := ⟨.hbm, 103, rfl⟩
abbrev main_v61 : Ref sig .tc := ⟨.hbm, 104, rfl⟩
abbrev main_cst_21 : Ref sig .tc := ⟨.hbm, 105, rfl⟩
abbrev main_cst_22 : Ref sig .tc := ⟨.hbm, 106, rfl⟩
abbrev main_call7_v0 : Ref sig .tc := ⟨.hbm, 107, rfl⟩
abbrev main_call7_v1 : Ref sig .tc := ⟨.hbm, 108, rfl⟩
abbrev main_v62 : Ref sig .tc := ⟨.hbm, 109, rfl⟩
abbrev main_cst_23 : Ref sig .tc := ⟨.hbm, 110, rfl⟩
abbrev main_call8_v0 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_24 : Ref sig .tc := ⟨.hbm, 125, rfl⟩
abbrev main_v76 : Ref sig .tc := ⟨.hbm, 126, rfl⟩
abbrev main_v77 : Ref sig .tc := ⟨.hbm, 127, rfl⟩
abbrev main_cst_25 : Ref sig .tc := ⟨.hbm, 128, rfl⟩
abbrev main_v78 : Ref sig .tc := ⟨.hbm, 129, rfl⟩
abbrev main_cst_26 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_27 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩

abbrev nD : Nat := 1
abbrev τ : Topo := Topo.v7x

variable {F : FTy → Type} [FloatOps F]
-- ==== Proof.Attention.lean ====
/-
  The mathematics of one row of the attention, over the extended reals. The row scores 65536 memory slots of which the
  last 64512 all hold the same score. The softmax over the 65536 scores and the sum of the values it weighs are then
  computed from the 1024 different scores and the common one, counted 64512 times.
-/
module

public import Idealize.ShloMosaic.PureOps
public import Idealize.ShloMosaic.Lib.IdealHost

@[expose] public section

noncomputable section

namespace Attention

open Idealize.ShloMosaic

/-! ## The constants -/

/-- The word `0x41000000` is eight. -/
theorem word_eight : Ideal.ofBits .f32 0x41000000#32 = ((8 : ℝ) : EReal) := by
  simp [Ideal.ofBits, Ideal.ieee, -EReal.coe_mul]; norm_num

/-- The word `0x3E000000` is an eighth. -/
theorem word_eighth : Ideal.ofBits .f32 0x3E000000#32 = ((1 / 8 : ℝ) : EReal) := by
  simp [Ideal.ofBits, Ideal.ieee, -EReal.coe_mul]; norm_num

/-- The word `0x477C0000` is 64512, the number of slots that the episode leaves empty. -/
theorem word_rest : Ideal.ofBits .f32 0x477C0000#32 = ((64512 : ℝ) : EReal) := by
  simp [Ideal.ofBits, Ideal.ieee, -EReal.coe_mul]; norm_num

/-- The word `0x45800000` is 4096, the number of weights of a layer. -/
theorem word_count : Ideal.ofBits .f32 0x45800000#32 = ((4096 : ℝ) : EReal) := by
  simp [Ideal.ofBits, Ideal.ieee, -EReal.coe_mul]; norm_num

/-- The word `0xFF800000` is minus infinity. -/
theorem word_bot : Ideal.ofBits .f32 0xFF800000#32 = ⊥ := by
  simp [Ideal.ofBits, Ideal.ieee]

/-! ## Real values among the extended reals -/

/-- The value is a real: neither infinity. -/
def IsReal (x : EReal) : Prop := ∃ r : ℝ, x = r

/-- A real number is real. -/
theorem IsReal.coe (r : ℝ) : IsReal r := ⟨r, rfl⟩

/-- Zero is real. -/
theorem IsReal.zero : IsReal 0 := ⟨0, rfl⟩

/-- One is real. -/
theorem IsReal.one : IsReal 1 := ⟨1, rfl⟩

/-- The sum of two reals is real. -/
theorem IsReal.add {x y : EReal} : IsReal x → IsReal y → IsReal (x + y) := by
  rintro ⟨r, rfl⟩ ⟨s, rfl⟩
  exact ⟨r + s, rfl⟩

/-- The product of two reals is real. -/
theorem IsReal.mul {x y : EReal} : IsReal x → IsReal y → IsReal (x * y) := by
  rintro ⟨r, rfl⟩ ⟨s, rfl⟩
  exact ⟨r * s, (EReal.coe_mul r s).symm⟩

/-- The negative of a real is real. -/
theorem IsReal.neg {x : EReal} : IsReal x → IsReal (-x) := by
  rintro ⟨r, rfl⟩
  exact ⟨-r, rfl⟩

/-- The greater of two reals is real. -/
theorem IsReal.max {x y : EReal} (hx : IsReal x) (hy : IsReal y) : IsReal (max x y) := by
  rcases max_choice x y with h | h <;> rw [h] <;> assumption

/-- A choice between two reals is real. -/
theorem IsReal.ite {p : Prop} [Decidable p] {x y : EReal} (hx : IsReal x) (hy : IsReal y) :
    IsReal (if p then x else y) := by
  split <;> assumption

/-- A sum of reals is real. -/
theorem IsReal.sum {ι : Type} (s : Finset ι) (f : ι → EReal) (h : ∀ i, IsReal (f i)) : IsReal (∑ i ∈ s, f i) := by
  classical
  induction s using Finset.induction_on with
  | empty => rw [Finset.sum_empty]; exact .zero
  | insert a s ha ih => rw [Finset.sum_insert ha]; exact (h a).add ih

/-- A value whose difference with itself is zero is real. -/
theorem IsReal.of_sub_self {x : EReal} (h : x - x = 0) : IsReal x := by
  induction x with
  | bot => exact absurd h (by decide)
  | top => exact absurd h (by decide)
  | coe r => exact ⟨r, rfl⟩

/-- A real less itself is zero. -/
theorem IsReal.sub_self {x : EReal} : IsReal x → x - x = 0 := by
  rintro ⟨r, rfl⟩
  rw [← EReal.coe_sub, _root_.sub_self, EReal.coe_zero]

/-- The words of the format that are neither infinities nor NaNs denote reals. -/
theorem word_real (b : BitVec 32) (h : (b.extractLsb' 23 8).toNat ≠ 255) : IsReal (Ideal.ofBits .f32 b) := by
  show IsReal (Ideal.ieee 8 23 b)
  unfold Ideal.ieee
  simp only []
  rw [if_neg (by simpa using h)]
  exact .ite ⟨_, rfl⟩ ⟨_, rfl⟩

/-! ## A layer with ternary weights -/

/-- The scale of a layer: the mean of its weights' absolute values, at least the printed bound. -/
def scale (W : Fin 64 → Fin 64 → EReal) : EReal :=
  max (Ideal.ofBits .f32 0x3727C5AC#32)
    (Ideal.div (∑ d, ∑ k, max (W d k) (-W d k)) (Ideal.ofBits .f32 0x45800000#32))

/-- A layer's weight rounded to minus one, zero or one times the scale. -/
def ternary (W : Fin 64 → Fin 64 → EReal) (d k : Fin 64) : EReal :=
  (if Ideal.ofBits .f32 0x3F2AAAAB#32 < Ideal.div (W d k) (scale W) then 1
    else if Ideal.div (W d k) (scale W) < Ideal.ofBits .f32 0xBF2AAAAB#32 then Ideal.ofBits .f32 0xBF800000#32
    else 0) * scale W

/-- The layer at one row `x`: the row against each row of ternary weights, plus the bias. -/
def linear (x : Fin 64 → EReal) (W : Fin 64 → Fin 64 → EReal) (b : Fin 64 → EReal) (d : Fin 64) : EReal :=
  ∑ k, x k * ternary W d k + b d

/-- The scale of real weights is real. -/
theorem scale_real {W : Fin 64 → Fin 64 → EReal} (hW : ∀ d k, IsReal (W d k)) : IsReal (scale W) := by
  refine (word_real _ (by decide)).max ?_
  rw [word_count, Ideal.div_coe (by norm_num)]
  exact (IsReal.sum _ _ fun d => .sum _ _ fun k => (hW d k).max (hW d k).neg).mul (.coe _)

/-- The ternary weights of real weights are real. -/
theorem ternary_real {W : Fin 64 → Fin 64 → EReal} (hW : ∀ d k, IsReal (W d k)) (d k : Fin 64) :
    IsReal (ternary W d k) :=
  (IsReal.ite .one (.ite (word_real _ (by decide)) .zero)).mul (scale_real hW)

/-- A layer with real weights and a real bias is real at a real row. -/
theorem linear_real {x : Fin 64 → EReal} {W : Fin 64 → Fin 64 → EReal} {b : Fin 64 → EReal}
    (hx : ∀ k, IsReal (x k)) (hW : ∀ d k, IsReal (W d k)) (hb : ∀ d, IsReal (b d)) (d : Fin 64) :
    IsReal (linear x W b d) :=
  (IsReal.sum _ _ fun k => (hx k).mul (ternary_real hW d k)).add (hb d)

/-- The layer at a row of zeros is its bias. -/
theorem linear_zero {x : Fin 64 → EReal} (hx : ∀ k, x k = 0) (W : Fin 64 → Fin 64 → EReal) (b : Fin 64 → EReal)
    (d : Fin 64) : linear x W b d = b d := by
  simp [linear, hx]

/-- The score of a key against a query: their product divided by eight. -/
def score (q k : Fin 64 → EReal) : EReal := (∑ d, q d * k d) * Ideal.ofBits .f32 0x3E000000#32

/-- The score of a real key against a real query is real. -/
theorem score_real {q k : Fin 64 → EReal} (hq : ∀ d, IsReal (q d)) (hk : ∀ d, IsReal (k d)) : IsReal (score q k) :=
  (IsReal.sum _ _ fun d => (hq d).mul (hk d)).mul (word_real _ (by decide))

/-- Dividing by eight is multiplying by an eighth. -/
theorem div_eight (q k : Fin 64 → EReal) :
    Ideal.div (∑ d, q d * k d) (Ideal.ofBits .f32 0x41000000#32) = score q k := by
  rw [score, word_eight, Ideal.div_coe (by norm_num), word_eighth]

/-! ## The softmax of a row -/

/-- The greatest of a row's different scores `s` and their common rest `r`. -/
def top (s : Fin 1024 → EReal) (r : EReal) : EReal := max (Finset.univ.fold max ⊥ s) r

/-- The numerator of a slot that the episode fills. -/
def numer (s : Fin 1024 → EReal) (r : EReal) (j : Fin 1024) : EReal := Ideal.exp (s j - top s r)

/-- The numerator of a slot that the episode leaves empty. -/
def numerRest (s : Fin 1024 → EReal) (r : EReal) : EReal := Ideal.exp (r - top s r)

/-- The denominator: the numerators added up, the common one counted 64512 times. -/
def denom (s : Fin 1024 → EReal) (r : EReal) : EReal :=
  ∑ j, numer s r j + Ideal.ofBits .f32 0x477C0000#32 * numerRest s r

/-- The denominator's inverse. -/
def inv (s : Fin 1024 → EReal) (r : EReal) : EReal := Ideal.div 1 (denom s r)

/-- The weights of a row: those of the slots that the episode fills, then the common one. -/
def weight (s : Fin 1024 → EReal) (r : EReal) (j : Fin 65536) : EReal :=
  if h : j.val < 1024 then numer s r ⟨j.val, h⟩ * inv s r else numerRest s r * inv s r

/-- The weighted sum of values `v` of the filled slots and the common value `b` of the others. -/
def retrieved (s : Fin 1024 → EReal) (r : EReal) (v : Fin 1024 → EReal) (b : EReal) : EReal :=
  ∑ j, numer s r j * inv s r * v j + Ideal.ofBits .f32 0x477C0000#32 * (numerRest s r * inv s r) * b

/-- The softmax of 65536 scores: the exponentials over the greatest score, divided by their sum. -/
def softmax (S : Fin 65536 → EReal) (j : Fin 65536) : EReal :=
  Ideal.div (Ideal.exp (S j - Finset.univ.fold max ⊥ S)) (∑ k, Ideal.exp (S k - Finset.univ.fold max ⊥ S))

/-- A sum of `a + b` terms of which the last `b` agree. -/
theorem sum_tail {a b n : Nat} (hn : n = a + b) {f : Fin n → EReal} {g : Fin a → EReal} {c : EReal}
    (hlow : ∀ j (h : j.val < a), f j = g ⟨j.val, h⟩) (hhigh : ∀ j, ¬ j.val < a → f j = c) :
    ∑ j, f j = ∑ j, g j + ((b : ℝ) : EReal) * c := by
  subst hn
  rw [Fin.sum_univ_add]
  refine congrArg₂ (· + ·) (Finset.sum_congr rfl fun j _ => hlow (Fin.castAdd b j) j.isLt) ?_
  rw [Finset.sum_congr rfl fun j _ => hhigh (Fin.natAdd a j) (by simp), Finset.sum_const, Finset.card_univ,
    Fintype.card_fin, EReal.nsmul_eq_mul]
  norm_cast

/-- A sum over the slots whose last 64512 terms agree. -/
theorem sum_slots {f : Fin 65536 → EReal} {g : Fin 1024 → EReal} {c : EReal}
    (hlow : ∀ j (h : j.val < 1024), f j = g ⟨j.val, h⟩) (hhigh : ∀ j, ¬ j.val < 1024 → f j = c) :
    ∑ j, f j = ∑ j, g j + Ideal.ofBits .f32 0x477C0000#32 * c := by
  rw [sum_tail (a := 1024) (b := 64512) rfl hlow hhigh, word_rest, Nat.cast_ofNat]

variable {S : Fin 65536 → EReal} {s : Fin 1024 → EReal} {r : EReal}

/-- The maximum folded from minus infinity is the least upper bound. -/
theorem fold_max_eq_sup {n : Nat} (f : Fin n → EReal) : Finset.univ.fold max ⊥ f = Finset.univ.sup f := rfl

/-- The greatest of the 65536 scores. -/
theorem fold_top (hlow : ∀ j (h : j.val < 1024), S j = s ⟨j.val, h⟩) (hhigh : ∀ j, ¬ j.val < 1024 → S j = r) :
    Finset.univ.fold max ⊥ S = top s r := by
  rw [top, fold_max_eq_sup, fold_max_eq_sup]
  apply le_antisymm
  · refine Finset.sup_le fun j _ => ?_
    by_cases h : j.val < 1024
    · rw [hlow j h]
      exact le_max_of_le_left (Finset.le_sup (f := s) (Finset.mem_univ _))
    · rw [hhigh j h]
      exact le_max_right _ _
  · refine max_le (Finset.sup_le fun j _ => ?_) ?_
    · rw [show s j = S ⟨j.val, by have := j.isLt; omega⟩ from (hlow ⟨j.val, _⟩ j.isLt).symm]
      exact Finset.le_sup (f := S) (Finset.mem_univ _)
    · rw [show r = S ⟨1024, by omega⟩ from (hhigh _ (by simp)).symm]
      exact Finset.le_sup (f := S) (Finset.mem_univ _)

/-- The greatest score is one of them. -/
theorem top_mem (s : Fin 1024 → EReal) (r : EReal) : (∃ j, top s r = s j) ∨ top s r = r := by
  rw [top, fold_max_eq_sup]
  obtain ⟨j, -, hj⟩ := Finset.exists_mem_eq_sup Finset.univ Finset.univ_nonempty s
  rcases max_choice (Finset.univ.sup s) r with h | h
  · exact .inl ⟨j, h.trans hj⟩
  · exact .inr h

/-- An exponential is not negative. -/
theorem exp_nonneg (x : EReal) : 0 ≤ Ideal.exp x := by
  induction x with
  | bot => exact le_rfl
  | top => exact le_top
  | coe x => exact EReal.coe_nonneg.2 (Real.exp_pos x).le

/-- The exponential of zero is one. -/
theorem exp_zero : Ideal.exp 0 = 1 := by
  show ((Real.exp 0 : ℝ) : EReal) = 1
  rw [Real.exp_zero]; rfl

/-- The denominator is at least one: the greatest score's own numerator is one. -/
theorem denom_ne_zero (hs : ∀ j, IsReal (s j)) (hr : IsReal r) : denom s r ≠ 0 := by
  have h0 : 0 ≤ ∑ j, numer s r j := Finset.sum_nonneg fun j _ => exp_nonneg _
  have h1 : 0 ≤ Ideal.ofBits .f32 0x477C0000#32 * numerRest s r := by
    rw [word_rest]
    exact mul_nonneg (EReal.coe_nonneg.2 (by norm_num)) (exp_nonneg _)
  refine ne_of_gt (lt_of_lt_of_le zero_lt_one ?_)
  rcases top_mem s r with ⟨j, hj⟩ | h
  · have hj1 : numer s r j = 1 := by rw [numer, hj, (hs j).sub_self, exp_zero]
    calc (1 : EReal) = numer s r j := hj1.symm
      _ ≤ ∑ j, numer s r j := Finset.single_le_sum (f := numer s r) (fun i _ => exp_nonneg _) (Finset.mem_univ j)
      _ ≤ denom s r := le_add_of_nonneg_right h1
  · have hr1 : numerRest s r = 1 := by rw [numerRest, h, hr.sub_self, exp_zero]
    calc (1 : EReal) ≤ Ideal.ofBits .f32 0x477C0000#32 * numerRest s r := by
          rw [hr1, mul_one, word_rest]; exact_mod_cast (by norm_num : (1 : ℝ) ≤ 64512)
      _ ≤ denom s r := le_add_of_nonneg_left h0

/-- Dividing by the denominator is multiplying by its inverse, when the scores are real. -/
theorem div_denom (hs : ∀ j, IsReal (s j)) (hr : IsReal r) (x : EReal) :
    Ideal.div x (denom s r) = x * inv s r := by
  rw [inv, Ideal.div, Ideal.div, if_neg (denom_ne_zero hs hr), if_neg (denom_ne_zero hs hr), one_mul]

/-- The softmax of the 65536 scores is the row's weights. -/
theorem softmax_eq (hlow : ∀ j (h : j.val < 1024), S j = s ⟨j.val, h⟩) (hhigh : ∀ j, ¬ j.val < 1024 → S j = r)
    (hs : ∀ j, IsReal (s j)) (hr : IsReal r) (j : Fin 65536) : softmax S j = weight s r j := by
  have hd : ∑ k, Ideal.exp (S k - Finset.univ.fold max ⊥ S) = denom s r := by
    rw [fold_top hlow hhigh]
    exact sum_slots (fun j h => by rw [hlow j h]; rfl) (fun j h => by rw [hhigh j h]; rfl)
  rw [softmax, hd, fold_top hlow hhigh, div_denom hs hr, weight]
  split
  · next h => rw [hlow j h]; rfl
  · next h => rw [hhigh j h]; rfl

/-- The values weighed by the softmax of the 65536 scores add up to what the row retrieves. -/
theorem retrieved_eq (hlow : ∀ j (h : j.val < 1024), S j = s ⟨j.val, h⟩) (hhigh : ∀ j, ¬ j.val < 1024 → S j = r)
    (hs : ∀ j, IsReal (s j)) (hr : IsReal r) {V : Fin 65536 → EReal} {v : Fin 1024 → EReal} {b : EReal}
    (vlow : ∀ j (h : j.val < 1024), V j = v ⟨j.val, h⟩) (vhigh : ∀ j, ¬ j.val < 1024 → V j = b) :
    ∑ j, softmax S j * V j = retrieved s r v b := by
  rw [sum_slots (g := fun j => numer s r j * inv s r * v j) (c := numerRest s r * inv s r * b)
    (fun j h => by rw [softmax_eq hlow hhigh hs hr, weight, dif_pos h, vlow j h])
    (fun j h => by rw [softmax_eq hlow hhigh hs hr, weight, dif_neg h, vhigh j h]), retrieved, ← mul_assoc]

end Attention
-- ==== Proof.RefMemory.lean ====
/-
  The memory the reference attends over. The slots are handed out in order of age, so that with the ages already in
  order the first 1024 slots receive the episode, row by row, and every other slot keeps what it held.
-/
module

public import proofs.«01_k».proof.Proof.Gen.ReferenceIdeal.Run
public import proofs.«01_k».proof.Proof.Attention
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- A list already in order is what the stable sort makes of it. -/
theorem stableSort_of_sorted {ι : Type} (before : ι → ι → Bool) (l : List ι)
    (h : l.Pairwise fun a b => before b a = false) : stableSort before l = l := by
  induction l with
  | nil => rfl
  | cons a l ih =>
    rw [List.pairwise_cons] at h
    rw [stableSort, ih h.2]
    cases l with
    | nil => rfl
    | cons b l => rw [insertBefore, if_neg (by simp [h.1 b (by simp)])]

/-- Where no later position goes before an earlier one, the stable sort leaves each position in its place. -/
theorem sortedFrom_of_sorted {n : Nat} (before : Fin n → Fin n → Bool) (h : ∀ a b, a < b → before b a = false)
    (k : Fin n) : sortedFrom before k = k := by
  have e : sortPositions n before = List.finRange n :=
    stableSort_of_sorted before _ ((List.pairwise_lt_finRange n).imp fun {a b} hab => h a b hab)
  unfold sortedFrom
  simp [e]

/-- The positions of the 1024 greatest entries of a vector that never increases are the first 1024, in order. -/
theorem topK_idx (x : FVec Ideal S65536 .f32) (h : ∀ a b : Fin 65536, a < b → x (ix1 b) ≤ x (ix1 a)) (j : S1024.Idx) :
    (Host.topK S1024 0 (FloatOps.cmpfTotal .gt) x sliceFits_S65536_S1024).2 j = BitVec.ofNat 32 (j 0).val := by
  unfold Host.topK Host.sort2
  pointwise
  have al : ∀ (i : S65536.Idx) (k : Fin 65536), i.along 0 k = ix1 k := fun i k => by
    funext a
    fin_cases a
    exact Function.update_self ..
  rw [sortedFrom_of_sorted _ _, al]
  · rfl
  intro a b hab
  rw [al, al]
  have hn : ¬ (x (ix1 a) < x (ix1 b)) := not_lt.2 (h a b hab)
  show (Ideal.cmpTotal .gt _ _ == 1#1) = false
  simp [Ideal.cmpTotal, Ideal.cmp, CmpDirection.ordered, hn]

/-- The slots, as words of the index operand of the scatter: slot `j` of the 1024. -/
def slots (age : FVec Ideal S65536 .f32) : IVec S1024x1 32 :=
  broadcastInDim S1024x1 ![0] bcast_S1024_S1024x1_0 (select (cmpi .slt
    (Host.topK S1024 0 (FloatOps.cmpfTotal .gt) (Host.negf age) sliceFits_S65536_S1024).2
      (broadcastInDim S1024 ![] bcast_S_S1024 (constantI S_ 32 0#32)))
    (addi (Host.topK S1024 0 (FloatOps.cmpfTotal .gt) (Host.negf age) sliceFits_S65536_S1024).2
      (broadcastInDim S1024 ![] bcast_S_S1024 (constantI S_ 32 65536#32)))
    (Host.topK S1024 0 (FloatOps.cmpfTotal .gt) (Host.negf age) sliceFits_S65536_S1024).2)

/-- With the ages in order, episode row `j` goes to slot `j`. -/
theorem slots_apply (age : FVec Ideal S65536 .f32) (h : ∀ a b : Fin 65536, a < b → age (ix1 a) ≤ age (ix1 b))
    (j : S1024x1.Idx) : slots age j = BitVec.ofNat 32 (j 0).val := by
  unfold slots
  pointwise
  rw [topK_idx _ (fun a b hab => EReal.neg_le_neg_iff.2 (h a b hab))]
  have hj : (j 0).val < 1024 := (j 0).isLt
  refine Routing.wrap_of_lt _ _ ?_
  pointwise
  rw [BitVec.toNat_ofNat]
  omega

/-- Update `k` of the scatter starts at the row its index word names. -/
theorem start_row (idx : IVec S1024x1 32) (k : S1024x64.Idx) :
    scatter_S65536x64_S1024x1_S1024x64_1_0_0_1.start k idx 0 = (idx (ix2 (k 0) 0)).toInt := by
  have e : ∀ i, scatter_S65536x64_S1024x1_S1024x64_1_0_0_1.siIdx k i = ix2 (k 0) 0 := fun i => by
    funext a
    fin_cases a
    · rfl
    · exact Subsingleton.elim (α := Fin 1) _ _
  exact congrArg (fun i => (idx i).toInt) (e _)

/-- The memory after the episode is written into it. -/
def memory (ep : FVec Ideal S1024x64 .f32) (mem : FVec Ideal S65536x64 .f32) (age : FVec Ideal S65536 .f32) :
    FVec Ideal S65536x64 .f32 :=
  Host.scatter scatter_S65536x64_S1024x1_S1024x64_1_0_0_1 (fun _ b => b) mem (slots age) ep

/-- Update `k` lands at `i` exactly when `k` and `i` name the same row and column. -/
theorem lands_iff (age : FVec Ideal S65536 .f32) (h : ∀ a b : Fin 65536, a < b → age (ix1 a) ≤ age (ix1 b))
    (k : S1024x64.Idx) (i : S65536x64.Idx) :
    scatter_S65536x64_S1024x1_S1024x64_1_0_0_1.resultIdx? k (slots age) = some i
      ↔ (k 0).val = (i 0).val ∧ (k 1).val = (i 1).val := by
  have e0 : scatter_S65536x64_S1024x1_S1024x64_1_0_0_1.start k (slots age) 0 = ((k 0).val : Int) := by
    have hk : (k 0).val < 1024 := (k 0).isLt
    rw [start_row, slots_apply age h]
    exact StableHlo.Predicate.toInt_ofNat_small _ (by show (k 0).val < _; omega)
  have e1 : scatter_S65536x64_S1024x1_S1024x64_1_0_0_1.start k (slots age) 1 = 0 := rfl
  have w0 : scatter_S65536x64_S1024x1_S1024x64_1_0_0_1.window k 0 = 0 := rfl
  have w1 : scatter_S65536x64_S1024x1_S1024x64_1_0_0_1.window k 1 = (k 1).val := rfl
  rw [Routing.resultIdx?_eq_some]
  constructor
  · intro q
    have q0 := q 0
    have q1 := q 1
    rw [e0, w0] at q0
    rw [e1, w1] at q1
    omega
  · rintro ⟨q0, q1⟩ a
    fin_cases a
    · show scatter_S65536x64_S1024x1_S1024x64_1_0_0_1.start k (slots age) 0 + (scatter_S65536x64_S1024x1_S1024x64_1_0_0_1.window k 0 : Int) = (i 0).val
      rw [e0, w0]; omega
    · show scatter_S65536x64_S1024x1_S1024x64_1_0_0_1.start k (slots age) 1 + (scatter_S65536x64_S1024x1_S1024x64_1_0_0_1.window k 1 : Int) = (i 1).val
      rw [e1, w1]; omega

/-- The first 1024 rows of the memory are the episode's. -/
theorem memory_low (ep : FVec Ideal S1024x64 .f32) (mem : FVec Ideal S65536x64 .f32) (age : FVec Ideal S65536 .f32)
    (h : ∀ a b : Fin 65536, a < b → age (ix1 a) ≤ age (ix1 b)) (j : Fin 65536) (d : Fin 64) (hj : j.val < 1024) :
    memory ep mem age (ix2 j d) = ep (ix2 ⟨j.val, hj⟩ d) := by
  refine Routing.scatter_set_hit _ mem (slots age) ep _ _ (fun k hk => ?_) (ix2 ⟨j.val, hj⟩ d)
    ((lands_iff age h _ _).2 ⟨rfl, rfl⟩)
  obtain ⟨q0, q1⟩ := (lands_iff age h _ _).1 hk
  rw [eq_ix2 k]
  exact congrArg₂ (fun a b => ep (ix2 a b)) (Fin.ext q0) (Fin.ext q1)

/-- The other rows of the memory are what they were. -/
theorem memory_high (ep : FVec Ideal S1024x64 .f32) (mem : FVec Ideal S65536x64 .f32) (age : FVec Ideal S65536 .f32)
    (h : ∀ a b : Fin 65536, a < b → age (ix1 a) ≤ age (ix1 b)) (j : Fin 65536) (d : Fin 64) (hj : ¬ j.val < 1024) :
    memory ep mem age (ix2 j d) = mem (ix2 j d) := by
  refine Routing.scatter_set_miss _ mem (slots age) ep _ fun k hk => hj ?_
  obtain ⟨q0, -⟩ := (lands_iff age h _ _).1 hk
  have hk0 : (k 0).val < 1024 := (k 0).isLt
  have : (k 0).val = j.val := q0
  omega

end Cert.ReferenceIdeal.Value
-- ==== Proof.RefTerm.lean ====
/-
  What the reference computes, stage by stage and at an index: the ternary weights, a layer, the scores, their softmax
  and the retrieved rows.
-/
module

public import proofs.«01_k».proof.Proof.RefMemory

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-! ## The stages -/

/-- The scale of a layer. -/
def scaleTerm (W : FVec Ideal S64x64 .f32) : FVec Ideal S_ .f32 :=
  maximumf (id (constant S_ .f32 0x3727C5AC#32)) (Host.divf
    (Host.reduceAdd (Host.absf W) (constant S_ .f32 0x00000000#32) reducesTo_S64x64_S_d0_1 h_S_)
    (constant S_ .f32 0x45800000#32))

/-- A layer's ternary weights, with the vanishing difference that the straight-through rounding adds. -/
def ternaryTerm (W : FVec Ideal S64x64 .f32) : FVec Ideal S64x64 .f32 :=
  addf (mulf (id (select (cmpf .ogt (Host.divf W (broadcastInDim S64x64 ![] bcast_S_S64x64 (scaleTerm W)))
      (broadcastInDim S64x64 ![] bcast_S_S64x64 (constant S_ .f32 0x3F2AAAAB#32)))
    (broadcastInDim S64x64 ![] bcast_S_S64x64 (constant S_ .f32 0x3F800000#32))
    (select (cmpf .olt (Host.divf W (broadcastInDim S64x64 ![] bcast_S_S64x64 (scaleTerm W)))
        (broadcastInDim S64x64 ![] bcast_S_S64x64 (constant S_ .f32 0xBF2AAAAB#32)))
      (broadcastInDim S64x64 ![] bcast_S_S64x64 (constant S_ .f32 0xBF800000#32))
      (broadcastInDim S64x64 ![] bcast_S_S64x64 (constant S_ .f32 0x00000000#32)))))
    (broadcastInDim S64x64 ![] bcast_S_S64x64 (scaleTerm W))) (subf W W)

/-- A layer of the episode. -/
def episodeTerm (x : FVec Ideal S1024x64 .f32) (W : FVec Ideal S64x64 .f32) (b : FVec Ideal S64 .f32) :
    FVec Ideal S1024x64 .f32 :=
  addf (Host.dotGeneral dot_S1024x64_S64x64_S1024x64_1_0_0_1_n_n none x
      (transpose S64x64 [1, 0] (ternaryTerm W) transposes_S64x64_S64x64_1_0))
    (broadcastInDim S1024x64 ![0, 1] bcast_S1x64_S1024x64_0_1 (broadcastInDim S1x64 ![1] bcast_S64_S1x64_1 b))

/-- A layer of the memory. -/
def memoryTerm (x : FVec Ideal S65536x64 .f32) (W : FVec Ideal S64x64 .f32) (b : FVec Ideal S64 .f32) :
    FVec Ideal S65536x64 .f32 :=
  addf (Host.dotGeneral dot_S65536x64_S64x64_S65536x64_1_0_0_1_n_n none x
      (transpose S64x64 [1, 0] (ternaryTerm W) transposes_S64x64_S64x64_1_0))
    (broadcastInDim S65536x64 ![0, 1] bcast_S1x64_S65536x64_0_1 (broadcastInDim S1x64 ![1] bcast_S64_S1x64_1 b))

/-- The scores of the keys against the queries. -/
def scoresTerm (q : FVec Ideal S1024x64 .f32) (k : FVec Ideal S65536x64 .f32) : FVec Ideal S1024x65536 .f32 :=
  Host.divf (Host.dotGeneral dot_S1024x64_S64x65536_S1024x65536_1_0_0_1_n_n none q
      (transpose S64x65536 [1, 0] k transposes_S65536x64_S64x65536_1_0))
    (broadcastInDim S1024x65536 ![] bcast_S_S1024x65536 (constant S_ .f32 0x41000000#32))

/-- The greatest score of each row. -/
def topTerm (s : FVec Ideal S1024x65536 .f32) : FVec Ideal S1024 .f32 :=
  maximumf (broadcastInDim S1024 ![] bcast_S_S1024 (constant S_ .f32 0xFF800000#32))
    (Host.reduce FloatOps.maximumf s (constant S_ .f32 0xFF800000#32) reducesTo_S1024x65536_S1024_d1 h_S_)

/-- A value of each row, repeated along it. -/
def alongTerm (x : FVec Ideal S1024 .f32) : FVec Ideal S1024x65536 .f32 :=
  broadcastInDim S1024x65536 ![0, 1] bcast_S1024x1_S1024x65536_0_1
    (broadcastInDim S1024x1 ![0] bcast_S1024_S1024x1_0 x)

/-- The numerators of the softmax. -/
def numerTerm (s : FVec Ideal S1024x65536 .f32) : FVec Ideal S1024x65536 .f32 :=
  Host.exp (subf s (alongTerm (topTerm s)))

/-- The softmax of each row. -/
def softmaxTerm (s : FVec Ideal S1024x65536 .f32) : FVec Ideal S1024x65536 .f32 :=
  Host.divf (numerTerm s) (alongTerm
    (Host.reduceAdd (numerTerm s) (constant S_ .f32 0x00000000#32) reducesTo_S1024x65536_S1024_d1 h_S_))

/-- The retrieved rows. -/
def retrievedTerm (w : FVec Ideal S1024x65536 .f32) (v : FVec Ideal S65536x64 .f32) : FVec Ideal S1024x64 .f32 :=
  Host.dotGeneral dot_S1024x65536_S65536x64_S1024x64_1_0_0_1_n_n none w v

/-! ## The stages at an index -/

/-- A row of a matrix, a layer's weights and its bias. -/
abbrev row {n k : Nat} (x : FVec Ideal ⟨2, ![n, k]⟩ .f32) (i : Fin n) : Fin k → EReal := fun j => x (ix2 i j)
/-- A matrix by row and column. -/
abbrev mat (W : FVec Ideal S64x64 .f32) : Fin 64 → Fin 64 → EReal := fun d k => W (ix2 d k)
/-- A vector by its entries. -/
abbrev vec (b : FVec Ideal S64 .f32) : Fin 64 → EReal := fun d => b (ix1 d)

/-- The scale that the reference computes from a layer's weights. -/
theorem scale_apply (W : FVec Ideal S64x64 .f32) (i : S_.Idx) :
    scaleTerm W i = Attention.scale (mat W) := by
  unfold scaleTerm Attention.scale
  simp only [id_eq]
  pointwise
  rfl

/-- The ternary weights that the reference computes: the term of the straight-through estimator is zero at real weights. -/
theorem ternary_apply (W : FVec Ideal S64x64 .f32) (hW : ∀ d k, Attention.IsReal (mat W d k)) (d k : Fin 64) :
    ternaryTerm W (ix2 d k) = Attention.ternary (mat W) d k := by
  unfold ternaryTerm Attention.ternary
  simp only [id_eq]
  pointwise
  rw [scale_apply, (hW d k).sub_self, add_zero]

/-- A layer of the episode, at row `i` and output `d`. -/
theorem episode_apply (x : FVec Ideal S1024x64 .f32) (W : FVec Ideal S64x64 .f32) (b : FVec Ideal S64 .f32)
    (hW : ∀ d k, Attention.IsReal (mat W d k)) (i : Fin 1024) (d : Fin 64) :
    episodeTerm x W b (ix2 i d) = Attention.linear (row x i) (mat W) (vec b) d := by
  unfold episodeTerm Attention.linear
  pointwise
  simp only [ternary_apply W hW]

/-- A layer of the memory, at slot `i` and output `d`. -/
theorem memory_apply (x : FVec Ideal S65536x64 .f32) (W : FVec Ideal S64x64 .f32) (b : FVec Ideal S64 .f32)
    (hW : ∀ d k, Attention.IsReal (mat W d k)) (i : Fin 65536) (d : Fin 64) :
    memoryTerm x W b (ix2 i d) = Attention.linear (row x i) (mat W) (vec b) d := by
  unfold memoryTerm Attention.linear
  pointwise
  simp only [ternary_apply W hW]

/-- The score of slot `j` against query `i`. -/
theorem scores_apply (q : FVec Ideal S1024x64 .f32) (k : FVec Ideal S65536x64 .f32) (i : Fin 1024) (j : Fin 65536) :
    scoresTerm q k (ix2 i j) = Attention.score (row q i) (row k j) := by
  unfold scoresTerm
  pointwise
  exact Attention.div_eight (row q i) (row k j)

/-- The greatest value of a row, folded from minus infinity. -/
theorem row_max (s : FVec Ideal S1024x65536 .f32) (i : Fin 1024) :
    Host.reduce FloatOps.maximumf s (constant S_ .f32 0xFF800000#32) reducesTo_S1024x65536_S1024_d1 h_S_ (ix1 i) =
      Finset.univ.fold max (Ideal.ofBits .f32 0xFF800000#32) (row s i) := by
  pointwise

/-- The sum of a row. -/
theorem row_sum (s : FVec Ideal S1024x65536 .f32) (i : Fin 1024) :
    Host.reduceAdd s (constant S_ .f32 0x00000000#32) reducesTo_S1024x65536_S1024_d1 h_S_ (ix1 i) = ∑ j, row s i j := by
  pointwise

/-- The greater of the printed word and a value of each row. -/
theorem max_bot (x : FVec Ideal S1024 .f32) (i : Fin 1024) :
    maximumf (broadcastInDim S1024 ![] bcast_S_S1024 (constant S_ .f32 0xFF800000#32)) x (ix1 i) =
      max (Ideal.ofBits .f32 0xFF800000#32) (x (ix1 i)) := by
  pointwise

/-- The greatest score of row `i`. -/
theorem top_apply (s : FVec Ideal S1024x65536 .f32) (i : Fin 1024) :
    topTerm s (ix1 i) = Finset.univ.fold max ⊥ (row s i) := by
  unfold topTerm
  rw [max_bot, row_max, Attention.word_bot, max_eq_right bot_le]

/-- A value of each row, repeated along the row. -/
theorem along_apply (x : FVec Ideal S1024 .f32) (i : Fin 1024) (j : Fin 65536) : alongTerm x (ix2 i j) = x (ix1 i) := by
  unfold alongTerm
  pointwise

/-- The exponential of a score over the greatest of its row. -/
theorem numer_apply (s : FVec Ideal S1024x65536 .f32) (i : Fin 1024) (j : Fin 65536) :
    numerTerm s (ix2 i j) = Ideal.exp (s (ix2 i j) - Finset.univ.fold max ⊥ (row s i)) := by
  unfold numerTerm
  pointwise
  rw [along_apply, top_apply]

/-- The weight of slot `j` for row `i` is the softmax of the row's scores. -/
theorem softmax_apply (s : FVec Ideal S1024x65536 .f32) (i : Fin 1024) (j : Fin 65536) :
    softmaxTerm s (ix2 i j) = Attention.softmax (row s i) j := by
  unfold softmaxTerm Attention.softmax
  pointwise
  rw [along_apply, row_sum, numer_apply]
  simp only [numer_apply]

/-- What row `i` retrieves: the sum of the values by their weights. -/
theorem retrieved_apply (w : FVec Ideal S1024x65536 .f32) (v : FVec Ideal S65536x64 .f32) (i : Fin 1024) (d : Fin 64) :
    retrievedTerm w v (ix2 i d) = ∑ j, w (ix2 i j) * v (ix2 j d) := by
  unfold retrievedTerm
  pointwise

/-! ## The two results -/

variable (m : (ℓ : Loc nD τ sig) → Buf (Elt Ideal) ℓ) (c : Dev nD)

/-- The episode that the reference is given. -/
abbrev episodeArg : FVec Ideal S1024x64 .f32 := m ((c.tc : Thread nD τ).loc main_arg0)
/-- The memory that the reference is given. -/
abbrev memoryArg : FVec Ideal S65536x64 .f32 := m ((c.tc : Thread nD τ).loc main_arg1)
/-- The ages of the memory's slots. -/
abbrev ageArg : FVec Ideal S65536 .f32 := m ((c.tc : Thread nD τ).loc main_arg2)
/-- The weights of the queries' layer. -/
abbrev wq : FVec Ideal S64x64 .f32 := m ((c.tc : Thread nD τ).loc main_arg3)
/-- The bias of the queries' layer. -/
abbrev bq : FVec Ideal S64 .f32 := m ((c.tc : Thread nD τ).loc main_arg4)
/-- The weights of the keys' layer. -/
abbrev wk : FVec Ideal S64x64 .f32 := m ((c.tc : Thread nD τ).loc main_arg5)
/-- The bias of the keys' layer. -/
abbrev bk : FVec Ideal S64 .f32 := m ((c.tc : Thread nD τ).loc main_arg6)
/-- The weights of the values' layer. -/
abbrev wv : FVec Ideal S64x64 .f32 := m ((c.tc : Thread nD τ).loc main_arg7)
/-- The bias of the values' layer. -/
abbrev bv : FVec Ideal S64 .f32 := m ((c.tc : Thread nD τ).loc main_arg8)

/-- The memory with the episode written into it. -/
def slotsTerm : FVec Ideal S65536x64 .f32 := memory (episodeArg m c) (memoryArg m c) (ageArg m c)

/-- The weights that the reference returns. -/
def weightsTerm : FVec Ideal S1024x65536 .f32 :=
  softmaxTerm (scoresTerm (episodeTerm (episodeArg m c) (wq m c) (bq m c))
    (memoryTerm (slotsTerm m c) (wk m c) (bk m c)))

/-- The reference's second result is the weights. -/
theorem res_weights : res_out1 m c = weightsTerm m c := by
  show res_main_v88 m c = _
  unfold res_main_v88
  rfl

/-- The reference's first result is the sum of the values by those weights. -/
theorem res_retrieved : res_out0 m c = retrievedTerm (weightsTerm m c) (memoryTerm (slotsTerm m c) (wv m c) (bv m c)) := by
  show res_main_v89 m c = _
  unfold res_main_v89
  rfl

end Cert.ReferenceIdeal.Value
-- ==== Proof.KernelPoint.lean ====
/-
  What one grid point of the attention kernel leaves, as the body's payloads of its input blocks.
-/
module

public import proofs.«01_k».proof.Proof.RefTerm
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The query of the episode, as the first point computes it. -/
abbrev query (c : Dev nD) (t : Fin cfg0.N) : FVec F S1024x64 .f32 :=
  k0_pay6 (iblk m c 0 t) (iblk m c 2 t) (iblk m c 1 t)

/-- The keys of the episode, as the first point computes them. -/
abbrev keys (c : Dev nD) (t : Fin cfg0.N) : FVec F S1024x64 .f32 :=
  k0_pay8 (iblk m c 0 t) (k0_pay5 (iblk m c 4 t)) (iblk m c 3 t) (k0_pay7 (iblk m c 3 t))

/-- A function of an index of rank two takes equal values where the coordinates agree. -/
theorem congr_ix2 {n0 n1 : Nat} {α : Type} (f : (⟨2, ![n0, n1]⟩ : Shape).Idx → α) {a a' : Fin n0} {b b' : Fin n1}
    (ha : a.val = a'.val) (hb : b.val = b'.val) : f (ix2 a b) = f (ix2 a' b') := by
  rw [Fin.ext ha, Fin.ext hb]

/-- A scratch array of two columns, stored column by column, at an index of either. -/
theorem columns_apply (x y : Vec F S1024x1 .f32) (a : Fin 1024) :
    View.canon (Val := Elt F) (s := S1024x2) (e := .f32)
        [⟨Rect.unit ![0, 1] ![1024, 1] inb_S1024x2_S1024x1_0_1, y⟩,
         ⟨Rect.unit ![0, 0] ![1024, 1] inb_S1024x2_S1024x1_0_0, x⟩] (ix2 a 0) = x (ix2 a 0)
    ∧ View.canon (Val := Elt F) (s := S1024x2) (e := .f32)
        [⟨Rect.unit ![0, 1] ![1024, 1] inb_S1024x2_S1024x1_0_1, y⟩,
         ⟨Rect.unit ![0, 0] ![1024, 1] inb_S1024x2_S1024x1_0_0, x⟩] (ix2 a 1) = y (ix2 a 0) := by
  constructor
  · canon_tiles x h
    · idx_vars x
      exact absurd (show (0 : ℕ) = 1 + x1.val from h1) (by omega)
    · idx_vars x
      exact congr_ix2 _ h0.symm h1.symm
  · canon_tiles x h
    · idx_vars x
      exact congr_ix2 _ h0.symm (by change (1 : ℕ) = 1 + x1.val at h1; change x1.val = 0; omega)
    · idx_vars x
      exact absurd (show (1 : ℕ) = x1.val from h1) (by omega)

/-- The first point leaves the numerators of the episode's scores in the first scratch array. -/
theorem at_A_0 (c : Dev nD) (t : Fin cfg0.N) (h0 : t.val % 32 = 0) (h1 : t.val < 31) (h2 : ¬t.val % 32 = 31) :
    (outsAt0 m c t.val t.isLt).2.2.1 = k0_pay16 (k0_pay5 (iblk m c 4 t)) (query m c t) (keys m c t) := by
  rw [outsAt0_A m c t h0 h1 h2]
  frame_out

/-- The first point leaves the values of the episode in the second scratch array. -/
theorem at_A_1 (c : Dev nD) (t : Fin cfg0.N) (h0 : t.val % 32 = 0) (h1 : t.val < 31) (h2 : ¬t.val % 32 = 31) :
    (outsAt0 m c t.val t.isLt).2.2.2.1 = k0_pay10 (k0_pay9 (iblk m c 0 t) (iblk m c 5 t)) (iblk m c 6 t) := by
  rw [outsAt0_A m c t h0 h1 h2]
  frame_out

/-- The first point leaves the inverses of the denominators in column 0 of the third scratch array and the common
weights in column 1. -/
theorem at_A_2 (c : Dev nD) (t : Fin cfg0.N) (h0 : t.val % 32 = 0) (h1 : t.val < 31) (h2 : ¬t.val % 32 = 31)
    (a : Fin 1024) :
    (outsAt0 m c t.val t.isLt).2.2.2.2 (ix2 a 0) =
        k0_pay18 (k0_pay5 (iblk m c 4 t)) (query m c t) (keys m c t) (ix2 a 0)
    ∧ (outsAt0 m c t.val t.isLt).2.2.2.2 (ix2 a 1) =
        k0_pay19 (k0_pay5 (iblk m c 4 t)) (query m c t) (keys m c t) (ix2 a 0) := by
  have e : (outsAt0 m c t.val t.isLt).2.2.2.2 = View.canon (Val := Elt F) (s := S1024x2) (e := .f32)
      [⟨Rect.unit ![0, 1] ![1024, 1] inb_S1024x2_S1024x1_0_1,
          k0_pay19 (k0_pay5 (iblk m c 4 t)) (query m c t) (keys m c t)⟩,
        ⟨Rect.unit ![0, 0] ![1024, 1] inb_S1024x2_S1024x1_0_0,
          k0_pay18 (k0_pay5 (iblk m c 4 t)) (query m c t) (keys m c t)⟩] := by
    rw [outsAt0_A m c t h0 h1 h2]
    frame_out
  rw [e]
  exact columns_apply _ _ a

/-- The first point writes the common weights into its block of the weights. -/
theorem at_A_7 (c : Dev nD) (t : Fin cfg0.N) (h0 : t.val % 32 = 0) (h1 : t.val < 31) (h2 : ¬t.val % 32 = 31) :
    (outsAt0 m c t.val t.isLt).1 = k0_pay1 (k0_pay19 (k0_pay5 (iblk m c 4 t)) (query m c t) (keys m c t)) := by
  rw [outsAt0_A m c t h0 h1 h2]
  frame_open
  simp only [View.readCov_cons_toLoadRect]
  frame_out

/-- The points between write the common weights kept in the third scratch array. -/
theorem at_B_7 (c : Dev nD) (t : Fin cfg0.N) (h0 : ¬t.val % 32 = 0) (h1 : t.val < 31) (h2 : ¬t.val % 32 = 31) :
    (outsAt0 m c t.val t.isLt).1 = k0_pay1 (View.ld (outsAt0 m c (t.val - 1) (by omega)).2.2.2.2
      (Rect.unit ![0, 1] ![1024, 1] inb_S1024x2_S1024x1_0_1)) := by
  rw [outsAt0_B m c t h0 h1 h2]
  frame_out
  simp only [read_unread_whole]

/-- The points between keep the scratch arrays. -/
theorem held_B (c : Dev nD) (t : Fin cfg0.N) (h0 : ¬t.val % 32 = 0) (h1 : t.val < 31) (h2 : ¬t.val % 32 = 31) :
    (outsAt0 m c t.val t.isLt).2.2 = (outsAt0 m c (t.val - 1) (by omega)).2.2 := by
  rw [outsAt0_B m c t h0 h1 h2]
  rfl

/-- Before the last point the scratch arrays hold what the first point left. -/
theorem held (c : Dev nD) (n : ℕ) (hn : n < cfg0.N) (h : n < 31) :
    (outsAt0 m c n hn).2.2 = (outsAt0 m c 0 (Nat.zero_lt_of_lt hn)).2.2 := by
  induction n with
  | zero => rfl
  | succ n ih =>
    rw [held_B m c ⟨n + 1, hn⟩ (by show ¬ (n + 1) % 32 = 0; omega) h (by show ¬ (n + 1) % 32 = 31; omega)]
    exact ih (by omega) (by omega)

/-- The last point's block of the weights, at an index of its left half: the weights of the episode's slots; -/
theorem at_C_7_low (c : Dev nD) (t : Fin cfg0.N) (h0 : ¬t.val % 32 = 0) (h1 : ¬t.val < 31) (h2 : t.val % 32 = 31)
    (a : Fin 1024) (j : Fin 2048) (hj : j.val < 1024) :
    (outsAt0 m c t.val t.isLt).1 (ix2 a j) =
      k0_pay2 (View.ld (outsAt0 m c (t.val - 1) (by omega)).2.2.2.2
          (Rect.unit ![0, 0] ![1024, 1] inb_S1024x2_S1024x1_0_0))
        (outsAt0 m c (t.val - 1) (by omega)).2.2.1 (ix2 a ⟨j.val, hj⟩) := by
  rw [outsAt0_C m c t h0 h1 h2]
  frame_out
  simp only [read_unread_whole]
  canon_tiles x h
  · idx_vars x
    exact absurd (show j.val = 1024 + x1.val from h1) (by omega)
  · idx_vars x
    exact congr_ix2 _ h0.symm h1.symm

/-- and at an index of its right half: the common weight. -/
theorem at_C_7_high (c : Dev nD) (t : Fin cfg0.N) (h0 : ¬t.val % 32 = 0) (h1 : ¬t.val < 31) (h2 : t.val % 32 = 31)
    (a : Fin 1024) (j : Fin 2048) (hj : ¬ j.val < 1024) :
    (outsAt0 m c t.val t.isLt).1 (ix2 a j) =
      k0_pay3 (View.ld (outsAt0 m c (t.val - 1) (by omega)).2.2.2.2
          (Rect.unit ![0, 1] ![1024, 1] inb_S1024x2_S1024x1_0_1)) (ix2 a ⟨j.val - 1024, by omega⟩) := by
  rw [outsAt0_C m c t h0 h1 h2]
  frame_out
  simp only [read_unread_whole]
  canon_tiles x h
  · idx_vars x
    exact congr_ix2 _ h0.symm (by change j.val = 1024 + x1.val at h1; change x1.val = j.val - 1024; omega)
  · idx_vars x
    exact absurd (show j.val = x1.val from h1) (by omega)

/-- The last point writes what the episode retrieves. -/
theorem at_C_8 (c : Dev nD) (t : Fin cfg0.N) (h0 : ¬t.val % 32 = 0) (h1 : ¬t.val < 31) (h2 : t.val % 32 = 31) :
    (outsAt0 m c t.val t.isLt).2.1 =
      k0_pay4 (View.ld (outsAt0 m c (t.val - 1) (by omega)).2.2.2.2
          (Rect.unit ![0, 0] ![1024, 1] inb_S1024x2_S1024x1_0_0))
        (View.ld (outsAt0 m c (t.val - 1) (by omega)).2.2.2.2
          (Rect.unit ![0, 1] ![1024, 1] inb_S1024x2_S1024x1_0_1))
        (outsAt0 m c (t.val - 1) (by omega)).2.2.1 (outsAt0 m c (t.val - 1) (by omega)).2.2.2.1 (iblk m c 6 t) := by
  rw [outsAt0_C m c t h0 h1 h2]
  frame_out
  simp only [read_unread_whole]

end Cert.KernelIdeal.Value
-- ==== Proof.KernelBlock.lean ====
/-
  What one block of the attention kernel computes, at an index: the layers of the episode, their scores, and the
  numerators, inverse denominator and common weight of each row.
-/
module

public import proofs.«01_k».proof.Proof.KernelPoint
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- Row `i` of a matrix. -/
abbrev row {n k : Nat} (x : FVec Ideal ⟨2, ![n, k]⟩ .f32) (i : Fin n) : Fin k → EReal := fun j => x (ix2 i j)

/-- A layer's weights by output and input. -/
abbrev mat (W : FVec Ideal S64x64 .f32) : Fin 64 → Fin 64 → EReal := fun d k => W (ix2 d k)

/-- The query is the first layer of the episode. -/
theorem pay6_apply (x : FVec Ideal S1024x64 .f32) (b : FVec Ideal S1x64 .f32) (W : FVec Ideal S64x64 .f32)
    (i : Fin 1024) (d : Fin 64) :
    k0_pay6 (F := Ideal) x b W (ix2 i d) = Attention.linear (row x i) (mat W) (row b 0) d := by
  unfold k0_pay6 Attention.linear Attention.ternary Attention.scale
  pointwise
  rfl

/-- The keys are the second layer of the episode. -/
theorem pay8_apply (x : FVec Ideal S1024x64 .f32) (b : FVec Ideal S1x64 .f32) (W : FVec Ideal S64x64 .f32)
    (i : Fin 1024) (d : Fin 64) :
    k0_pay8 (F := Ideal) x (k0_pay5 b) W (k0_pay7 W) (ix2 i d) = Attention.linear (row x i) (mat W) (row b 0) d := by
  unfold k0_pay8 k0_pay7 k0_pay5 Attention.linear Attention.ternary Attention.scale
  pointwise
  rfl

/-- The values are the third layer of the episode. -/
theorem pay10_apply (x : FVec Ideal S1024x64 .f32) (b : FVec Ideal S1x64 .f32) (W : FVec Ideal S64x64 .f32)
    (i : Fin 1024) (d : Fin 64) :
    k0_pay10 (F := Ideal) (k0_pay9 x W) b (ix2 i d) = Attention.linear (row x i) (mat W) (row b 0) d := by
  unfold k0_pay10 k0_pay9 Attention.linear Attention.ternary Attention.scale
  pointwise
  rfl

/-- A score of the episode's keys. -/
theorem pay11_apply (q k : FVec Ideal S1024x64 .f32) (i j : Fin 1024) :
    k0_pay11 q k (ix2 i j) = Attention.score (row q i) (row k j) := by
  unfold k0_pay11 Attention.score
  pointwise

/-- The score of an empty slot's key. -/
theorem pay12_apply (b : FVec Ideal S1x64 .f32) (q : FVec Ideal S1024x64 .f32) (i : Fin 1024) :
    k0_pay12 b q (ix2 i 0) = Attention.score (row q i) (row b 0) := by
  unfold k0_pay12 Attention.score
  pointwise

/-- The scores of the episode's keys against query `i`. -/
abbrev scores (q k : FVec Ideal S1024x64 .f32) (i : Fin 1024) : Fin 1024 → EReal :=
  fun j => Attention.score (row q i) (row k j)

/-- The score of an empty slot's key, which is the bias, against query `i`. -/
abbrev rest (b : FVec Ideal S1x64 .f32) (q : FVec Ideal S1024x64 .f32) (i : Fin 1024) : EReal :=
  Attention.score (row q i) (row b 0)

/-- The greatest value of a row. -/
theorem row_max (v : FVec Ideal S1024x1024 .f32) (i : Fin 1024) :
    multiReduction .maximumf [1] S1024 v 0xFF800000#32 reduces_S1024x1024_S1024 (.inl rfl) rfl (ix1 i) =
      Finset.univ.fold max (Ideal.ofBits .f32 0xFF800000#32) fun j => v (ix2 i j) := by
  pointwise

/-- The greater of a column's value and another's. -/
theorem max_column (v : FVec Ideal S1024 .f32) (w : FVec Ideal S1024x1 .f32) (i : Fin 1024) :
    maximumf (shapeCast S1024x1 v shapeCasts_S1024_S1024x1) w (ix2 i 0) = max (v (ix1 i)) (w (ix2 i 0)) := by
  pointwise

/-- The row's greatest score. -/
theorem pay13_apply (b : FVec Ideal S1x64 .f32) (q k : FVec Ideal S1024x64 .f32) (i : Fin 1024) :
    k0_pay13 b q k (ix2 i 0) = Attention.top (scores q k i) (rest b q i) := by
  unfold k0_pay13
  rw [max_column, row_max, pay12_apply, Attention.word_bot]
  simp only [pay11_apply]
  rfl

/-- The numerator of a slot that the episode fills, as computed … -/
theorem pay14_apply (b : FVec Ideal S1x64 .f32) (q k : FVec Ideal S1024x64 .f32) (i j : Fin 1024) :
    k0_pay14 b q k (ix2 i j) = Attention.numer (scores q k i) (rest b q i) j := by
  unfold k0_pay14 Attention.numer
  pointwise
  rw [pay11_apply, pay13_apply]

/-- The numerator of an empty slot. -/
theorem pay15_apply (b : FVec Ideal S1x64 .f32) (q k : FVec Ideal S1024x64 .f32) (i : Fin 1024) :
    k0_pay15 b q k (ix2 i 0) = Attention.numerRest (scores q k i) (rest b q i) := by
  unfold k0_pay15 Attention.numerRest
  pointwise
  rw [pay12_apply, pay13_apply]

/-- … and as stored. -/
theorem pay16_apply (b : FVec Ideal S1x64 .f32) (q k : FVec Ideal S1024x64 .f32) (i j : Fin 1024) :
    k0_pay16 (k0_pay5 b) q k (ix2 i j) = Attention.numer (scores q k i) (rest b q i) j := by
  unfold k0_pay16 k0_pay5
  pointwise
  rw [pay14_apply]

/-- The inverse of the denominator, as computed … -/
theorem pay17_apply (b : FVec Ideal S1x64 .f32) (q k : FVec Ideal S1024x64 .f32) (i : Fin 1024) :
    k0_pay17 b q k (ix2 i 0) = Attention.inv (scores q k i) (rest b q i) := by
  unfold k0_pay17 Attention.inv Attention.denom
  pointwise
  simp only [pay14_apply, pay15_apply]

/-- … and as stored. -/
theorem pay18_apply (b : FVec Ideal S1x64 .f32) (q k : FVec Ideal S1024x64 .f32) (i : Fin 1024) :
    k0_pay18 (k0_pay5 b) q k (ix2 i 0) = Attention.inv (scores q k i) (rest b q i) := by
  unfold k0_pay18 k0_pay5
  pointwise
  rw [pay17_apply]

/-- The weight of an empty slot. -/
theorem pay19_apply (b : FVec Ideal S1x64 .f32) (q k : FVec Ideal S1024x64 .f32) (i : Fin 1024) :
    k0_pay19 (k0_pay5 b) q k (ix2 i 0) =
      Attention.numerRest (scores q k i) (rest b q i) * Attention.inv (scores q k i) (rest b q i) := by
  unfold k0_pay19 k0_pay5
  pointwise
  rw [pay15_apply, pay17_apply]

/-- A block of the weights that holds one column repeated, of the width of a block … -/
theorem pay1_apply (x : FVec Ideal S1024x1 .f32) (i : Fin 1024) (j : Fin 2048) : k0_pay1 x (ix2 i j) = x (ix2 i 0) := by
  unfold k0_pay1
  pointwise

/-- The block of numerators times the inverse denominators. -/
theorem pay2_apply (x : FVec Ideal S1024x1 .f32) (p : FVec Ideal S1024x1024 .f32) (i j : Fin 1024) :
    k0_pay2 x p (ix2 i j) = p (ix2 i j) * x (ix2 i 0) := by
  unfold k0_pay2
  pointwise

/-- … and of half that width. -/
theorem pay3_apply (x : FVec Ideal S1024x1 .f32) (i j : Fin 1024) : k0_pay3 x (ix2 i j) = x (ix2 i 0) := by
  unfold k0_pay3
  pointwise

/-- What a row retrieves: the weights of the episode's slots against their values, then the empty slots' part. -/
theorem pay4_apply (x y : FVec Ideal S1024x1 .f32) (p : FVec Ideal S1024x1024 .f32) (v : FVec Ideal S1024x64 .f32)
    (b : FVec Ideal S1x64 .f32) (i : Fin 1024) (d : Fin 64) :
    k0_pay4 x y p v b (ix2 i d) = ∑ j, p (ix2 i j) * x (ix2 i 0) * v (ix2 j d)
      + Ideal.ofBits .f32 0x477C0000#32 * y (ix2 i 0) * b (ix2 0 d) := by
  unfold k0_pay4
  pointwise
  simp only [pay2_apply]

end Cert.KernelIdeal.Value
-- ==== Proof.KernelArray.lean ====
/-
  What the kernel's two result arrays hold after the run: the weights of every row over the 65536 slots, and what every
  row retrieves.
-/
module

public import proofs.«01_k».proof.Proof.KernelBlock

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The episode that the kernel is given. -/
abbrev episode : FVec Ideal S1024x64 .f32 := m ((c.tc : Thread nD τ).loc main_arg0)
/-- The weights of the queries' layer. -/
abbrev wq : FVec Ideal S64x64 .f32 := m ((c.tc : Thread nD τ).loc main_arg3)
/-- The bias of the queries' layer. -/
abbrev bq : FVec Ideal S64 .f32 := m ((c.tc : Thread nD τ).loc main_arg4)
/-- The weights of the keys' layer. -/
abbrev wk : FVec Ideal S64x64 .f32 := m ((c.tc : Thread nD τ).loc main_arg5)
/-- The bias of the keys' layer. -/
abbrev bk : FVec Ideal S64 .f32 := m ((c.tc : Thread nD τ).loc main_arg6)
/-- The weights of the values' layer. -/
abbrev wv : FVec Ideal S64x64 .f32 := m ((c.tc : Thread nD τ).loc main_arg7)
/-- The bias of the values' layer. -/
abbrev bv : FVec Ideal S64 .f32 := m ((c.tc : Thread nD τ).loc main_arg8)

/-- Where the windows' blocks lie: each operand's block is the whole array, and the weights' block of a point is the
next block of columns, that of the last point the first. -/
theorem idx : ∀ t : Fin cfg0.N,
    win0_0.index t = ![0, 0] ∧ win0_1.index t = ![0, 0] ∧ win0_2.index t = ![0, 0] ∧ win0_3.index t = ![0, 0] ∧
    win0_4.index t = ![0, 0] ∧ win0_5.index t = ![0, 0] ∧ win0_6.index t = ![0, 0] ∧
    win0_7.index t = ![0, (t.val + 1) % 32] :=
  (by decide +kernel : ∀ t : Fin grid0.N,
    win0_0.index t = ![0, 0] ∧ win0_1.index t = ![0, 0] ∧ win0_2.index t = ![0, 0] ∧ win0_3.index t = ![0, 0] ∧
    win0_4.index t = ![0, 0] ∧ win0_5.index t = ![0, 0] ∧ win0_6.index t = ![0, 0] ∧
    win0_7.index t = ![0, (t.val + 1) % 32])

/-- The first operand's block holds the episode. -/
theorem blk_episode (t : Fin cfg0.N) (i : Fin 1024) (d : Fin 64) : iblk m c 0 t (ix2 i d) = episode m c (ix2 i d) := by
  blk_ext [iblk, V, idx t]

/-- The second operand's block holds the weights of the queries' layer. -/
theorem blk_wq (t : Fin cfg0.N) (i : Fin 64) (d : Fin 64) : iblk m c 1 t (ix2 i d) = wq m c (ix2 i d) := by
  blk_ext [iblk, V, idx t]

/-- The third operand's block holds the bias of the queries' layer, as a row. -/
theorem blk_bq (t : Fin cfg0.N) (d : Fin 64) : iblk m c 2 t (ix2 0 d) = bq m c (ix1 d) := by
  blk_ext! [iblk, V, idx t]

/-- The fourth operand's block holds the weights of the keys' layer. -/
theorem blk_wk (t : Fin cfg0.N) (i : Fin 64) (d : Fin 64) : iblk m c 3 t (ix2 i d) = wk m c (ix2 i d) := by
  blk_ext [iblk, V, idx t]

/-- The fifth operand's block holds the bias of the keys' layer, as a row. -/
theorem blk_bk (t : Fin cfg0.N) (d : Fin 64) : iblk m c 4 t (ix2 0 d) = bk m c (ix1 d) := by
  blk_ext! [iblk, V, idx t]

/-- The sixth operand's block holds the weights of the values' layer. -/
theorem blk_wv (t : Fin cfg0.N) (i : Fin 64) (d : Fin 64) : iblk m c 5 t (ix2 i d) = wv m c (ix2 i d) := by
  blk_ext [iblk, V, idx t]

/-- The seventh operand's block holds the bias of the values' layer, as a row. -/
theorem blk_bv (t : Fin cfg0.N) (d : Fin 64) : iblk m c 6 t (ix2 0 d) = bv m c (ix1 d) := by
  blk_ext! [iblk, V, idx t]

/-! ## The scratch arrays after the first point -/

/-- The query of an episode's row. -/
def queryRow (i : Fin 1024) : Fin 64 → EReal :=
  Attention.linear (row (episode m c) i) (mat (wq m c)) fun d => bq m c (ix1 d)
/-- The key of an episode's row. -/
def keyRow (i : Fin 1024) : Fin 64 → EReal :=
  Attention.linear (row (episode m c) i) (mat (wk m c)) fun d => bk m c (ix1 d)
/-- The value of an episode's row. -/
def valueRow (i : Fin 1024) : Fin 64 → EReal :=
  Attention.linear (row (episode m c) i) (mat (wv m c)) fun d => bv m c (ix1 d)

/-- The scores of the episode's keys against query `i`. -/
def own (i : Fin 1024) : Fin 1024 → EReal := fun j => Attention.score (queryRow m c i) (keyRow m c j)
/-- The score of an empty slot's key against query `i`. -/
def common (i : Fin 1024) : EReal := Attention.score (queryRow m c i) fun d => bk m c (ix1 d)

/-- Row `i` of the queries computed from the blocks is the query of row `i` of the episode. -/
theorem query_row (t : Fin cfg0.N) (i : Fin 1024) : row (query m c t) i = queryRow m c i := by
  funext d
  show k0_pay6 (F := Ideal) _ _ _ _ = _
  rw [pay6_apply]
  exact congrFun (congr (congr (congrArg Attention.linear (funext fun k => blk_episode m c _ i k))
    (funext fun d => funext fun k => blk_wq m c _ d k)) (funext fun d => blk_bq m c _ d)) d

/-- Row `i` of the keys computed from the blocks is the key of row `i` of the episode. -/
theorem keys_row (t : Fin cfg0.N) (i : Fin 1024) : row (keys m c t) i = keyRow m c i := by
  funext d
  show k0_pay8 (F := Ideal) _ _ _ _ _ = _
  rw [pay8_apply]
  exact congrFun (congr (congr (congrArg Attention.linear (funext fun k => blk_episode m c _ i k))
    (funext fun d => funext fun k => blk_wk m c _ d k)) (funext fun d => blk_bk m c _ d)) d

/-- The scores computed from the blocks are those of the episode's keys. -/
theorem scores_eq (t : Fin cfg0.N) (i : Fin 1024) : scores (query m c t) (keys m c t) i = own m c i := by
  funext j
  show Attention.score _ _ = _
  rw [query_row, keys_row]
  rfl

/-- The common score computed from the blocks is that of an empty slot's key. -/
theorem rest_eq (t : Fin cfg0.N) (i : Fin 1024) : rest (iblk m c 4 t) (query m c t) i = common m c i := by
  show Attention.score _ _ = _
  rw [query_row, common]
  congr 1
  funext d
  exact blk_bk m c t d

section

variable (n : ℕ) (hn : n < cfg0.N) (h : n < 31)

include h

/-- Before the last point the first scratch array holds the numerators of the episode's slots, -/
theorem scratch0 (i j : Fin 1024) :
    (outsAt0 m c n hn).2.2.1 (ix2 i j) = Attention.numer (own m c i) (common m c i) j := by
  rw [held m c n hn h, at_A_0 m c ⟨0, Nat.zero_lt_of_lt hn⟩ (by rfl) (by show 0 < 31; decide) (by show ¬0 % 32 = 31; decide), pay16_apply, scores_eq,
    rest_eq]

/-- the second the episode's values, -/
theorem scratch1 (i : Fin 1024) (d : Fin 64) : (outsAt0 m c n hn).2.2.2.1 (ix2 i d) = valueRow m c i d := by
  rw [held m c n hn h, at_A_1 m c ⟨0, Nat.zero_lt_of_lt hn⟩ (by rfl) (by show 0 < 31; decide) (by show ¬0 % 32 = 31; decide), pay10_apply]
  exact congrFun (congr (congr (congrArg Attention.linear (funext fun k => blk_episode m c _ i k))
    (funext fun d => funext fun k => blk_wv m c _ d k)) (funext fun d => blk_bv m c _ d)) d

/-- the third the inverse denominators in its first column, -/
theorem scratch2_zero (i : Fin 1024) :
    (outsAt0 m c n hn).2.2.2.2 (ix2 i 0) = Attention.inv (own m c i) (common m c i) := by
  rw [held m c n hn h, (at_A_2 m c ⟨0, Nat.zero_lt_of_lt hn⟩ (by rfl) (by show 0 < 31; decide) (by show ¬0 % 32 = 31; decide) i).1, pay18_apply,
    scores_eq, rest_eq]

/-- and the weights of the empty slots in its second. -/
theorem scratch2_one (i : Fin 1024) :
    (outsAt0 m c n hn).2.2.2.2 (ix2 i 1) =
      Attention.numerRest (own m c i) (common m c i) * Attention.inv (own m c i) (common m c i) := by
  rw [held m c n hn h, (at_A_2 m c ⟨0, Nat.zero_lt_of_lt hn⟩ (by rfl) (by show 0 < 31; decide) (by show ¬0 % 32 = 31; decide) i).2, pay19_apply,
    scores_eq, rest_eq]

/-- A load of the third scratch array's first column, at an index; -/
theorem column_zero (i : Fin 1024) :
    View.ld (outsAt0 m c n hn).2.2.2.2 (Rect.unit ![0, 0] ![1024, 1] inb_S1024x2_S1024x1_0_0) (ix2 i 0) =
      Attention.inv (own m c i) (common m c i) := by
  refine Eq.trans ?_ (scratch2_zero m c n hn h i)
  pointwise

/-- and of its second. -/
theorem column_one (i : Fin 1024) :
    View.ld (outsAt0 m c n hn).2.2.2.2 (Rect.unit ![0, 1] ![1024, 1] inb_S1024x2_S1024x1_0_1) (ix2 i 0) =
      Attention.numerRest (own m c i) (common m c i) * Attention.inv (own m c i) (common m c i) := by
  refine Eq.trans ?_ (scratch2_one m c n hn h i)
  pointwise

end

/-! ## The result arrays -/

/-- A point before the last leaves a block of the empty slots' weights. -/
theorem block7_rest (t : Fin cfg0.N) (h : t.val < 31) (i : Fin 1024) (j : Fin 2048) :
    (outsAt0 m c t.val t.isLt).1 (ix2 i j) =
      Attention.numerRest (own m c i) (common m c i) * Attention.inv (own m c i) (common m c i) := by
  by_cases h0 : t.val % 32 = 0
  · rw [at_A_7 m c t h0 h (by omega), pay1_apply, pay19_apply, scores_eq, rest_eq]
  · rw [at_B_7 m c t h0 h (by omega), pay1_apply, column_one m c (t.val - 1) (by omega) (by omega)]

/-- The last leaves the episode's slots' weights in the left half of its block and the empty slots' in the right. -/
theorem block7_last (t : Fin cfg0.N) (h : t.val = 31) (i : Fin 1024) (j : Fin 2048) :
    (outsAt0 m c t.val t.isLt).1 (ix2 i j) =
      Attention.weight (own m c i) (common m c i) ⟨j.val, by omega⟩ := by
  unfold Attention.weight
  split
  · next hj =>
    rw [at_C_7_low m c t (by omega) (by omega) (by omega) i j hj, pay2_apply,
      column_zero m c (t.val - 1) (by omega) (by omega), scratch0 m c (t.val - 1) (by omega) (by omega)]
  · next hj =>
    rw [at_C_7_high m c t (by omega) (by omega) (by omega) i j hj, pay3_apply,
      column_one m c (t.val - 1) (by omega) (by omega)]

/-- The array of weights: row `i` holds the row's weights over the 65536 slots. -/
def weights : FVec Ideal S1024x65536 .f32 := fun i => Attention.weight (own m c (i 0)) (common m c (i 0)) (i 1)

/-- The array of retrieved rows. -/
def retrieved : FVec Ideal S1024x64 .f32 := fun i =>
  Attention.retrieved (own m c (i 0)) (common m c (i 0)) (fun j => valueRow m c j (i 1)) (bv m c (ix1 (i 1)))

/-- The weights' block of point `t` starts at the column that many blocks from the left. -/
theorem emb7 (t : Fin cfg0.N) (i : Fin 1024) (j : Fin 2048) :
    (win0_7.blk t).view.emb (ix2 i j) =
      ix2 i ⟨(t.val + 1) % 32 * 2048 + j.val, by have := Nat.mod_lt (t.val + 1) (by decide : 0 < 32); omega⟩ := by
  blk_ext [idx t]

/-- After the run the first result array holds the weights. -/
theorem arr7 : (dats m 0 c).arrAt 7 cfg0.N = weights m c := by
  refine Dat.arrAt_eq_of_covers (dats m 0 c) 7 _ (by decide +kernel) fun t hf y => ?_
  blk_simp
  rw [after0_7]
  obtain ⟨i, j, rfl⟩ : ∃ (i : Fin 1024) (j : Fin 2048), y = ix2 i j := ⟨y 0, y 1, eq_ix2 y⟩
  have ht : t.val < 32 := lt_of_lt_of_eq t.isLt N_0
  refine Eq.trans ?_ (congrArg (weights m c) (emb7 t i j)).symm
  show _ = Attention.weight (own m c i) (common m c i) _
  by_cases h : t.val = 31
  · refine (block7_last m c t h i j).trans (congrArg _ (Fin.ext ?_))
    show j.val = (t.val + 1) % 32 * 2048 + j.val
    omega
  · refine (block7_rest m c t (by omega) i j).trans ?_
    unfold Attention.weight
    rw [dif_neg (by show ¬ (t.val + 1) % 32 * 2048 + j.val < 1024; omega)]

/-- The last point. -/
def last : Fin cfg0.N := ⟨31, by decide +kernel⟩

/-- After the run the second result array holds the retrieved rows. -/
theorem arr8 : (dats m 0 c).arrAt 8 cfg0.N = retrieved m c := by
  refine Dat.arrAt_eq_of_after_last (dats m 0 c) 8 last (by decide +kernel) _ fun j => ?_
  blk_simp
  rw [after0_8, at_C_8 m c last (by decide) (by decide) (by decide)]
  obtain ⟨i, d, rfl⟩ : ∃ (i : Fin 1024) (d : Fin 64), j = ix2 i d := ⟨j 0, j 1, eq_ix2 j⟩
  have hn : last.val - 1 < cfg0.N := by decide +kernel
  have h : last.val - 1 < 31 := by decide
  refine (pay4_apply _ _ _ _ _ i d).trans ?_
  rw [column_zero m c _ hn h, column_one m c _ hn h, blk_bv]
  simp only [scratch0 m c _ hn h, scratch1 m c _ hn h]
  rfl

end Cert.KernelIdeal.Value
-- ==== Proof.Fresh.lean ====
/-
  What the precondition says of the arguments, element by element: the memory is all zeros, the ages never decrease from
  one slot to the next, and the episode, the layers' weights and the biases of the queries and of the keys are real
  numbers.
-/
module

public import proofs.«01_k».proof.Proof.KernelArray
public import proofs.«01_k».proof.Defs

@[expose] public section

set_option maxRecDepth 16384

noncomputable section

namespace Cert.Pre_fresh_memory

open Cert.Pre_fresh_memory Idealize.ShloMosaic Idealize.SL.Sem

/-- A comparison for equality that answers one compares equal numbers. -/
theorem eq_of_oeq {x y : EReal} (h : Ideal.cmp .oeq x y = 1#1) : x = y := by
  by_contra n
  simp [Ideal.cmp, n] at h

/-- A comparison for "at most" that answers one compares a number with one no smaller. -/
theorem le_of_ole {x y : EReal} (h : Ideal.cmp .ole x y = 1#1) : x ≤ y := by
  by_contra n
  simp [Ideal.cmp, n] at h

/-- An array that equals the constant zero everywhere is zero at every index. -/
theorem zero_of_eq {S : Shape} (hb : S_.BroadcastsInDim S ![]) (x : FVec Ideal S .f32)
    (h : cmpf .oeq x (broadcastInDim S ![] hb (constant (F := Ideal) S_ .f32 0x00000000#32)) = fun _ => 1#1) (i : S.Idx) :
    x i = (0 : EReal) := by
  have e : Ideal.cmp .oeq (x i) (Ideal.ofBits .f32 0x00000000#32) = 1#1 := congrFun h i
  exact (eq_of_oeq e).trans (Ideal.ofBits_zero _)

/-- An array whose difference with itself is zero holds real numbers. -/
theorem real_of_eq {S : Shape} (hb : S_.BroadcastsInDim S ![]) (x : FVec Ideal S .f32)
    (h : cmpf .oeq (subf x x) (broadcastInDim S ![] hb (constant (F := Ideal) S_ .f32 0x00000000#32)) = fun _ => 1#1)
    (i : S.Idx) : Attention.IsReal (x i) :=
  .of_sub_self (zero_of_eq hb _ h i)

/-- A vector each of whose entries is at most the next never decreases. -/
theorem le_of_steps (x : FVec Ideal S65536 .f32) (hs0 : S65536.Slices ![0] S65535) (hs1 : S65536.Slices ![1] S65535)
    (h : cmpf .ole (extractStridedSlice S65535 ![0] x hs0) (extractStridedSlice S65535 ![1] x hs1) = fun _ => 1#1)
    (a b : Fin 65536) (hab : a < b) : (x (ix1 a) : EReal) ≤ x (ix1 b) := by
  have step : ∀ (n : ℕ) (hn : n + 1 < 65536),
      (x (ix1 ⟨n, Nat.lt_of_succ_lt hn⟩) : EReal) ≤ x (ix1 ⟨n + 1, hn⟩) := by
    intro n hn
    have e := congrFun h (ix1 ⟨n, Nat.lt_of_succ_lt_succ hn⟩)
    have e' := le_of_ole e
    have e0 : extractStridedSlice S65535 ![0] x hs0 (ix1 ⟨n, Nat.lt_of_succ_lt_succ hn⟩)
        = x (ix1 ⟨n, Nat.lt_of_succ_lt hn⟩) := by
      unfold extractStridedSlice
      congr 1
      funext k
      fin_cases k
      ext
      simp
    have e1 : extractStridedSlice S65535 ![1] x hs1 (ix1 ⟨n, Nat.lt_of_succ_lt_succ hn⟩)
        = x (ix1 ⟨n + 1, hn⟩) := by
      unfold extractStridedSlice
      congr 1
      funext k
      fin_cases k
      ext
      simp [Nat.add_comm]
    rw [e0, e1] at e'
    exact e'
  have chain : ∀ (d n : ℕ) (hn : n + d < 65536),
      (x (ix1 ⟨n, Nat.lt_of_le_of_lt (Nat.le_add_right n d) hn⟩) : EReal) ≤ x (ix1 ⟨n + d, hn⟩) := by
    intro d
    induction d with
    | zero => intro n hn; exact le_refl _
    | succ d ih => intro n hn; exact (ih n (Nat.lt_of_succ_lt hn)).trans (step (n + d) hn)
  have e := chain (b.val - a.val) a.val (by omega)
  have hb : (⟨a.val + (b.val - a.val), by omega⟩ : Fin 65536) = b := Fin.ext (by show a.val + (b.val - a.val) = b.val; omega)
  rw [hb] at e
  exact e

section

variable [Facts] {m : (ℓ : Loc Cert.KernelIdeal.nD Cert.KernelIdeal.τ Cert.KernelIdeal.sig) → Buf (Elt Ideal) ℓ}
  (h : Cert.Pre_KernelIdeal_fresh_memory m) (c : Dev Cert.KernelIdeal.nD)

/-- The memory that the kernel is given. -/
abbrev memoryArg (m : (ℓ : Loc Cert.KernelIdeal.nD Cert.KernelIdeal.τ Cert.KernelIdeal.sig) → Buf (Elt Ideal) ℓ)
    (c : Dev Cert.KernelIdeal.nD) : FVec Ideal S65536x64 .f32 :=
  m ((c.tc : Thread Cert.KernelIdeal.nD Cert.KernelIdeal.τ).loc Cert.KernelIdeal.main_arg1)
/-- The ages of the memory's slots. -/
abbrev ageArg (m : (ℓ : Loc Cert.KernelIdeal.nD Cert.KernelIdeal.τ Cert.KernelIdeal.sig) → Buf (Elt Ideal) ℓ)
    (c : Dev Cert.KernelIdeal.nD) : FVec Ideal S65536 .f32 :=
  m ((c.tc : Thread Cert.KernelIdeal.nD Cert.KernelIdeal.τ).loc Cert.KernelIdeal.main_arg2)

include h

/-- The memory is all zeros. -/
theorem memory_zero (i : S65536x64.Idx) : memoryArg m c i = (0 : EReal) :=
  zero_of_eq Facts.bcast_S_S65536x64 _ (h c).1 i

/-- The ages never decrease. -/
theorem age_le (a b : Fin 65536) (hab : a < b) : (ageArg m c (ix1 a) : EReal) ≤ ageArg m c (ix1 b) :=
  le_of_steps _ Facts.slices_S65536_S65535_0 Facts.slices_S65536_S65535_1 (h c).2.1 a b hab

/-- The episode is real. -/
theorem episode_real (i : S1024x64.Idx) : Attention.IsReal (KernelIdeal.Value.episode m c i) :=
  real_of_eq Facts.bcast_S_S1024x64 _ (h c).2.2.1 i

/-- The weights of the queries' layer are real. -/
theorem wq_real (i : S64x64.Idx) : Attention.IsReal (KernelIdeal.Value.wq m c i) :=
  real_of_eq Facts.bcast_S_S64x64 _ (h c).2.2.2.1 i

/-- The bias of the queries' layer is real. -/
theorem bq_real (i : S64.Idx) : Attention.IsReal (KernelIdeal.Value.bq m c i) :=
  real_of_eq Facts.bcast_S_S64 _ (h c).2.2.2.2.1 i

/-- The weights of the keys' layer are real. -/
theorem wk_real (i : S64x64.Idx) : Attention.IsReal (KernelIdeal.Value.wk m c i) :=
  real_of_eq Facts.bcast_S_S64x64 _ (h c).2.2.2.2.2.1 i

/-- The bias of the keys' layer is real. -/
theorem bk_real (i : S64.Idx) : Attention.IsReal (KernelIdeal.Value.bk m c i) :=
  real_of_eq Facts.bcast_S_S64 _ (h c).2.2.2.2.2.2.1 i

/-- The weights of the values' layer are real. -/
theorem wv_real (i : S64x64.Idx) : Attention.IsReal (KernelIdeal.Value.wv m c i) :=
  real_of_eq Facts.bcast_S_S64x64 _ (h c).2.2.2.2.2.2.2 i

end

end Cert.Pre_fresh_memory

end
-- ==== Proof.Equation.lean ====
/-
  The equation: from the same arguments, fresh as the precondition says, the reference's two results are the kernel's.
-/
module

public import proofs.«01_k».proof.Proof.Fresh

@[expose] public section

set_option maxRecDepth 16384

noncomputable section

namespace Cert.Equation

open Idealize.ShloMosaic Idealize.SL.Sem Cert.Pre_fresh_memory
open Cert.ReferenceIdeal.Value (episodeTerm memoryTerm scoresTerm softmaxTerm memory)
open Cert.KernelIdeal.Value (row mat)

variable [Facts] {m : (ℓ : Loc KernelIdeal.nD KernelIdeal.τ KernelIdeal.sig) → Buf (Elt Ideal) ℓ}
  (h : Cert.Pre_KernelIdeal_fresh_memory m) (c : Dev KernelIdeal.nD)

/-- The memory that the reference attends over, made from the kernel's arguments. -/
abbrev slots (m : (ℓ : Loc KernelIdeal.nD KernelIdeal.τ KernelIdeal.sig) → Buf (Elt Ideal) ℓ) (c : Dev KernelIdeal.nD) :
    FVec Ideal S65536x64 .f32 :=
  memory (KernelIdeal.Value.episode m c) (memoryArg m c) (ageArg m c)

/-- The reference's scores, made from the kernel's arguments. -/
abbrev scores (m : (ℓ : Loc KernelIdeal.nD KernelIdeal.τ KernelIdeal.sig) → Buf (Elt Ideal) ℓ) (c : Dev KernelIdeal.nD) :
    FVec Ideal ReferenceIdeal.S1024x65536 .f32 :=
  scoresTerm (episodeTerm (KernelIdeal.Value.episode m c) (KernelIdeal.Value.wq m c) (KernelIdeal.Value.bq m c))
    (memoryTerm (slots m c) (KernelIdeal.Value.wk m c) (KernelIdeal.Value.bk m c))

include h

/-- A layer of one of the first 1024 slots is the layer of the episode's row. -/
theorem layer_low (W : FVec Ideal S64x64 .f32) (b : FVec Ideal S64 .f32) (hW : ∀ i, Attention.IsReal (W i))
    (j : Fin 65536) (hj : j.val < 1024) (d : Fin 64) :
    memoryTerm (slots m c) W b (ix2 j d) =
      Attention.linear (row (KernelIdeal.Value.episode m c) ⟨j.val, hj⟩) (mat W) (fun d => b (ix1 d)) d := by
  rw [ReferenceIdeal.Value.memory_apply _ _ _ fun d k => hW (ix2 d k)]
  have e : ReferenceIdeal.Value.row (slots m c) j = row (KernelIdeal.Value.episode m c) ⟨j.val, hj⟩ :=
    funext fun k => ReferenceIdeal.Value.memory_low _ _ _ (age_le h c) j k hj
  rw [e]

/-- A layer of any other slot is its bias. -/
theorem layer_high (W : FVec Ideal S64x64 .f32) (b : FVec Ideal S64 .f32) (hW : ∀ i, Attention.IsReal (W i))
    (j : Fin 65536) (hj : ¬ j.val < 1024) (d : Fin 64) :
    memoryTerm (slots m c) W b (ix2 j d) = b (ix1 d) := by
  rw [ReferenceIdeal.Value.memory_apply _ _ _ fun d k => hW (ix2 d k)]
  exact Attention.linear_zero (fun k => (ReferenceIdeal.Value.memory_high _ _ _ (age_le h c) j k hj).trans
    (memory_zero h c (ix2 j k))) _ _ d

/-- The reference's query is the kernel's. -/
theorem query_eq (i : Fin 1024) :
    ReferenceIdeal.Value.row (episodeTerm (KernelIdeal.Value.episode m c) (KernelIdeal.Value.wq m c)
      (KernelIdeal.Value.bq m c)) i = KernelIdeal.Value.queryRow m c i :=
  funext fun d => ReferenceIdeal.Value.episode_apply _ _ _ (fun d k => wq_real h c (ix2 d k)) i d

/-- The score of one of the first 1024 slots is that of the episode's row. -/
theorem score_low (i : Fin 1024) (j : Fin 65536) (hj : j.val < 1024) :
    ReferenceIdeal.Value.row (scores m c) i j = KernelIdeal.Value.own m c i ⟨j.val, hj⟩ := by
  refine (ReferenceIdeal.Value.scores_apply _ _ i j).trans ?_
  rw [query_eq h c i, KernelIdeal.Value.own]
  exact congrArg (Attention.score _) (funext fun d => layer_low h c _ _ (wk_real h c) j hj d)

/-- The score of any other slot is the common one. -/
theorem score_high (i : Fin 1024) (j : Fin 65536) (hj : ¬ j.val < 1024) :
    ReferenceIdeal.Value.row (scores m c) i j = KernelIdeal.Value.common m c i := by
  refine (ReferenceIdeal.Value.scores_apply _ _ i j).trans ?_
  rw [query_eq h c i, KernelIdeal.Value.common]
  exact congrArg (Attention.score _) (funext fun d => layer_high h c _ _ (wk_real h c) j hj d)

/-- The kernel's queries are real. -/
theorem query_real (i : Fin 1024) (d : Fin 64) : Attention.IsReal (KernelIdeal.Value.queryRow m c i d) :=
  Attention.linear_real (fun k => episode_real h c (ix2 i k)) (fun d k => wq_real h c (ix2 d k))
    (fun d => bq_real h c (ix1 d)) d

/-- The scores of the episode's rows are real. -/
theorem own_real (i j : Fin 1024) : Attention.IsReal (KernelIdeal.Value.own m c i j) :=
  Attention.score_real (query_real h c i) (Attention.linear_real (fun k => episode_real h c (ix2 j k))
    (fun d k => wk_real h c (ix2 d k)) fun d => bk_real h c (ix1 d))

/-- The common score is real. -/
theorem common_real (i : Fin 1024) : Attention.IsReal (KernelIdeal.Value.common m c i) :=
  Attention.score_real (query_real h c i) fun d => bk_real h c (ix1 d)

/-- The softmax of the reference's scores is the kernel's weights. -/
theorem softmax_scores : softmaxTerm (scores m c) = KernelIdeal.Value.weights m c := by
  funext i
  rw [eq_ix2 i]
  exact (ReferenceIdeal.Value.softmax_apply _ _ _).trans (Attention.softmax_eq (score_low h c (i 0)) (score_high h c (i 0))
    (own_real h c (i 0)) (common_real h c (i 0)) (i 1))

/-- What the reference retrieves for row `i`, at column `d`. -/
theorem retrieved_at (i : Fin 1024) (d : Fin 64) :
    ReferenceIdeal.Value.retrievedTerm (softmaxTerm (scores m c))
      (memoryTerm (slots m c) (KernelIdeal.Value.wv m c) (KernelIdeal.Value.bv m c)) (ix2 i d) =
      Attention.retrieved (KernelIdeal.Value.own m c i) (KernelIdeal.Value.common m c i)
        (fun j => KernelIdeal.Value.valueRow m c j d) (KernelIdeal.Value.bv m c (ix1 d)) := by
  refine (ReferenceIdeal.Value.retrieved_apply _ _ i d).trans ?_
  refine (Finset.sum_congr rfl fun j _ => ?_).trans (Attention.retrieved_eq (score_low h c i) (score_high h c i)
    (own_real h c i) (common_real h c i)
    (V := fun j => memoryTerm (slots m c) (KernelIdeal.Value.wv m c) (KernelIdeal.Value.bv m c) (ix2 j d))
    (v := fun j => KernelIdeal.Value.valueRow m c j d) (b := KernelIdeal.Value.bv m c (ix1 d))
    (fun j hj => layer_low h c _ _ (wv_real h c) j hj d) (fun j hj => layer_high h c _ _ (wv_real h c) j hj d))
  rw [ReferenceIdeal.Value.softmax_apply]

/-- What the reference retrieves with those weights is what the kernel retrieves. -/
theorem retrieved_scores :
    ReferenceIdeal.Value.retrievedTerm (softmaxTerm (scores m c))
      (memoryTerm (slots m c) (KernelIdeal.Value.wv m c) (KernelIdeal.Value.bv m c)) =
      KernelIdeal.Value.retrieved m c := by
  funext i
  rw [eq_ix2 i]
  exact retrieved_at h c (i 0) (i 1)

variable {m' : (ℓ : Loc ReferenceIdeal.nD ReferenceIdeal.τ ReferenceIdeal.sig) → Buf (Elt Ideal) ℓ}
  (e0 : ReferenceIdeal.Value.episodeArg m' c = KernelIdeal.Value.episode m c)
  (e1 : ReferenceIdeal.Value.memoryArg m' c = memoryArg m c)
  (e2 : ReferenceIdeal.Value.ageArg m' c = ageArg m c)
  (e3 : ReferenceIdeal.Value.wq m' c = KernelIdeal.Value.wq m c)
  (e4 : ReferenceIdeal.Value.bq m' c = KernelIdeal.Value.bq m c)
  (e5 : ReferenceIdeal.Value.wk m' c = KernelIdeal.Value.wk m c)
  (e6 : ReferenceIdeal.Value.bk m' c = KernelIdeal.Value.bk m c)

include e0 e1 e2 e3 e4 e5 e6

/-- From the same arguments the reference's weights are the kernel's. -/
theorem weights_eq : ReferenceIdeal.Value.weightsTerm m' c = KernelIdeal.Value.weights m c := by
  unfold ReferenceIdeal.Value.weightsTerm ReferenceIdeal.Value.slotsTerm
  rw [e0, e1, e2, e3, e4, e5, e6]
  exact softmax_scores h c

/-- The reference's second result is the kernel's first array. -/
theorem result_weights : ReferenceIdeal.Value.res_out1 m' c = KernelIdeal.Value.weights m c :=
  (ReferenceIdeal.Value.res_weights m' c).trans (weights_eq h c e0 e1 e2 e3 e4 e5 e6)

/-- The reference's first result is the kernel's second array. -/
theorem result_retrieved (e7 : ReferenceIdeal.Value.wv m' c = KernelIdeal.Value.wv m c)
    (e8 : ReferenceIdeal.Value.bv m' c = KernelIdeal.Value.bv m c) :
    ReferenceIdeal.Value.res_out0 m' c = KernelIdeal.Value.retrieved m c := by
  rw [ReferenceIdeal.Value.res_retrieved, weights_eq h c e0 e1 e2 e3 e4 e5 e6, ← softmax_scores h c]
  unfold ReferenceIdeal.Value.slotsTerm
  rw [e0, e1, e2, e7, e8]
  exact retrieved_scores h c

end Cert.Equation

end
-- ==== Proof.lean ====
/-
  The proof of `Cert.Claim`: the three programs run and leave their arguments, the idealization rewrites nothing, and at
  the ideal instance the kernel and the reference compute the same weights and retrieve the same rows.
-/
module

public import proofs.«01_k».proof.Defs
public import proofs.«01_k».proof.Proof.Equation
public import proofs.«01_k».proof.Proof.Gen.Pre_fresh_memory
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs and leaves its arguments as they were. -/
theorem frame_kernel : Cert.quiescent_Kernel := fun m ρ _ => Cert.Kernel.Gen.frame m ρ

/-- The idealized kernel runs and leaves its arguments as they were. -/
theorem frame_ideal : Cert.quiescent_KernelIdeal := fun m ρ _ => Cert.KernelIdeal.Gen.frame m ρ

/-- The reference runs and leaves its arguments as they were. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- At the ideal instance the kernel and the reference end with equal results. -/
theorem algebraic : Cert.algebraic_KernelIdeal_ReferenceIdeal_pre_fresh_memory := by
  intro m ρ m' ρ' hpre hagree
  refine ⟨fun c => Cert.KernelIdeal.Value.retrieved m c, fun c => Cert.KernelIdeal.Value.weights m c,
    (θ_run Cert.KernelIdeal.defs _ _).mono (fun _ h c => ?_) (Cert.KernelIdeal.Value.run_blocks (F := Ideal) m ρ),
    (θ_run Cert.ReferenceIdeal.defs _ _).mono (fun _ h c => ?_) (Cert.ReferenceIdeal.Value.run (F := Ideal) m' ρ')⟩
  · exact ⟨(h c).2.1.trans (Cert.KernelIdeal.Value.arr8 m c), (h c).1.trans (Cert.KernelIdeal.Value.arr7 m c),
      (h c).2.2⟩
  · obtain ⟨e0, e1, e2, e3, e4, e5, e6, e7, e8⟩ := hagree c
    exact ⟨(h c).1.trans (Cert.Equation.result_retrieved hpre c e0 e1 e2 e3 e4 e5 e6 e7 e8),
      (h c).2.1.trans (Cert.Equation.result_weights hpre c e0 e1 e2 e3 e4 e5 e6), (h c).2.2⟩

/-- The certificate. -/
theorem claim : Cert.Claim :=
  ⟨Cert.Kernel.Gen.facts, Cert.KernelIdeal.Gen.facts, Cert.ReferenceIdeal.Gen.facts, Cert.Pre_fresh_memory.Gen.facts,
    frame_kernel, frame_ideal, fun m ρ _ => frame_ideal m ρ trivial, frame_reference,
    fun m ρ _ => frame_reference m ρ trivial, trivial, algebraic⟩

end Cert.Proof

end
